-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_on_settled [hKernelIdeal : Cert.KernelIdeal.Facts] [hReferenceIdeal : Cert.ReferenceIdeal.Facts] [hOn_settled : Cert.On_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 8]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v0_0) i = v0 c i)
          ∧ (∀ i : (⟨2, ![8192, 32]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 8]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v28) i = v0 c i)
          ∧ (∀ i : (⟨2, ![8192, 32]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.ReferenceIdeal.nD Cert.ReferenceIdeal.τ).loc Cert.ReferenceIdeal.main_v29) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hOn_settled : Cert.On_settled.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_settled (hKernelIdeal := hKernelIdeal) (hReferenceIdeal := hReferenceIdeal) (hOn_settled := hOn_settled)
-- ==== On_settled.lean ====
abbrev S4x2048x768 : Shape := ⟨3, ![4, 2048, 768]⟩
abbrev S8192x768 : Shape := ⟨2, ![8192, 768]⟩
abbrev S8192 : Shape := ⟨1, ![8192]⟩
abbrev S32x768 : Shape := ⟨2, ![32, 768]⟩
abbrev S32 : Shape := ⟨1, ![32]⟩
abbrev S4x2048x8192 : Shape := ⟨3, ![4, 2048, 8192]⟩
abbrev S1x1x8192 : Shape := ⟨3, ![1, 1, 8192]⟩
abbrev S4x2048x9 : Shape := ⟨3, ![4, 2048, 9]⟩
abbrev S8192x9 : Shape := ⟨2, ![8192, 9]⟩
abbrev S8192x8 : Shape := ⟨2, ![8192, 8]⟩
abbrev S_ : Shape := ⟨0, ![]⟩
abbrev S8192x1 : Shape := ⟨2, ![8192, 1]⟩
abbrev S8192x7 : Shape := ⟨2, ![8192, 7]⟩
abbrev S8192x32 : Shape := ⟨2, ![8192, 32]⟩

class Facts : Prop where
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  sliceFits_S4x2048x8192_S4x2048x9 : S4x2048x8192.Slices (fun _ => 0) S4x2048x9
  shapeCasts_S4x2048x9_S8192x9 : S4x2048x9.ShapeCasts S8192x9
  slices_S8192x9_S8192x8_0_0 : S8192x9.Slices ![0, 0] S8192x8
  slices_S8192x9_S8192x8_0_1 : S8192x9.Slices ![0, 1] S8192x8
  bcast_S_S8192x1 : S_.BroadcastsInDim S8192x1 (![] : Fin 0 → Fin S8192x1.rank)
  slices_S8192x8_S8192x7_0_0 : S8192x8.Slices ![0, 0] S8192x7
  concatenates_S8192x1_S8192x7_S8192x8_d1 : Shape.Concatenates [S8192x1, S8192x7] S8192x8 1
  bcast_S_S8192x32 : S_.BroadcastsInDim S8192x32 (![] : Fin 0 → Fin S8192x32.rank)
  dot_S4x2048x768_S8192x768_S4x2048x8192_2_1_01_0_n_n_wf : DotDims.WF S4x2048x768 S8192x768 S4x2048x8192 [2] [1] [0, 1] [0] [] []

variable [Facts]

def dot_S4x2048x768_S8192x768_S4x2048x8192_2_1_01_0_n_n : DotDims S4x2048x768 S8192x768 S4x2048x8192 where
  lhsContracting := [2]
  rhsContracting := [1]
  lhsNonContracting := [0, 1]
  rhsNonContracting := [0]
  lhsBatch := []
  rhsBatch := []
  wf := dot_S4x2048x768_S8192x768_S4x2048x8192_2_1_01_0_n_n_wf
def fn {F : FTy → Type} [FloatOps F] (main_arg0 : FVec F S4x2048x768 .f32) (main_arg1 : FVec F S8192x768 .f32) (main_arg2 : FVec F S8192 .f32) (main_arg3 : FVec F S32x768 .f32) (main_arg4 : FVec F S32 .f32) : IVec S8192x8 1 × IVec S8192x32 1 :=
  let main_v0 : FVec F S4x2048x8192 .f32 := (fun l r => Host.dotGeneral dot_S4x2048x768_S8192x768_S4x2048x8192_2_1_01_0_n_n none l r) main_arg0 main_arg1
  let main_v1 : FVec F S1x1x8192 .f32 := broadcastInDim S1x1x8192 ![2] bcast_S8192_S1x1x8192_2 main_arg2
  let main_v2 : FVec F S4x2048x8192 .f32 := broadcastInDim S4x2048x8192 ![0, 1, 2] bcast_S1x1x8192_S4x2048x8192_0_1_2 main_v1
  let main_v3 : FVec F S4x2048x8192 .f32 := addf main_v0 main_v2
  let main_values : FVec F S4x2048x9 .f32 := (fun x => (Host.topK S4x2048x9 2 (FloatOps.cmpfTotal .gt) x sliceFits_S4x2048x8192_S4x2048x9).1) main_v3
  let main_indices : IVec S4x2048x9 32 := (fun x => (Host.topK S4x2048x9 2 (FloatOps.cmpfTotal .gt) x sliceFits_S4x2048x8192_S4x2048x9).2) main_v3
  let main_v4 : FVec F S8192x9 .f32 := shapeCast S8192x9 main_values shapeCasts_S4x2048x9_S8192x9
  let main_v5 : FVec F S8192x8 .f32 := (extractStridedSlice S8192x8 ![0, 0] · slices_S8192x9_S8192x8_0_0) main_v4
  let main_v6 : FVec F S8192x8 .f32 := (extractStridedSlice S8192x8 ![0, 1] · slices_S8192x9_S8192x8_0_1) main_v4
  let main_v7 : IVec S8192x8 1 := cmpf .ogt main_v5 main_v6
  let main_c : IVec S_ 1 := constantI S_ 1 1#1
  let main_v8 : IVec S8192x1 1 := broadcastInDim S8192x1 ![] bcast_S_S8192x1 main_c
  let main_v9 : IVec S8192x7 1 := (extractStridedSlice S8192x7 ![0, 0] · slices_S8192x8_S8192x7_0_0) main_v7
  let main_v10 : IVec S8192x8 1 := (fun a b => concatenate S8192x8 1 [⟨S8192x1, a⟩, ⟨S8192x7, b⟩] concatenates_S8192x1_S8192x7_S8192x8_d1) main_v8 main_v9
  let main_v11 : IVec S8192x8 1 := andi main_v10 main_v7
  let main_c_0 : IVec S_ 1 := constantI S_ 1 1#1
  let main_v12 : IVec S8192x32 1 := broadcastInDim S8192x32 ![] bcast_S_S8192x32 main_c_0
  (main_v11, main_v12)
-- ==== Kernel.lean ====
abbrev S4x2048x768 : Shape := ⟨3, ![4, 2048, 768]⟩
abbrev S8192x768 : Shape := ⟨2, ![8192, 768]⟩
abbrev S8192 : Shape := ⟨1, ![8192]⟩
abbrev S32x768 : Shape := ⟨2, ![32, 768]⟩
abbrev S32 : Shape := ⟨1, ![32]⟩
abbrev S1x8192 : Shape := ⟨2, ![1, 8192]⟩
abbrev S1x32 : Shape := ⟨2, ![1, 32]⟩
abbrev S8192x8 : Shape := ⟨2, ![8192, 8]⟩
abbrev S8192x32 : Shape := ⟨2, ![8192, 32]⟩
abbrev S1024x768 : Shape := ⟨2, ![1024, 768]⟩
abbrev S1x1024 : Shape := ⟨2, ![1, 1024]⟩
abbrev S1024x8 : Shape := ⟨2, ![1024, 8]⟩
abbrev S1024x32 : Shape := ⟨2, ![1024, 32]⟩
abbrev S8x1024x128 : Shape := ⟨3, ![8, 1024, 128]⟩
abbrev S1024x1024 : Shape := ⟨2, ![1024, 1024]⟩
abbrev S1024x128 : Shape := ⟨2, ![1024, 128]⟩
abbrev S1x1024x128 : Shape := ⟨3, ![1, 1024, 128]⟩
abbrev S1024 : Shape := ⟨1, ![1024]⟩
abbrev S1024x1 : Shape := ⟨2, ![1024, 1]⟩
abbrev S8x32 : Shape := ⟨2, ![8, 32]⟩
abbrev S32x32 : Shape := ⟨2, ![32, 32]⟩

abbrev nBuf : Space → Nat
  | .hbm => 10
  | .vmem => 14
  | .smem => 0
  | _ => 0

abbrev bufTy : (tb : Table) → Fin (tcTables nBuf tb) → BufTy
  | .hbm, ⟨0, _⟩ => ⟨S4x2048x768, .f32⟩
  | .hbm, ⟨1, _⟩ => ⟨S8192x768, .f32⟩
  | .hbm, ⟨2, _⟩ => ⟨S8192, .f32⟩
  | .hbm, ⟨3, _⟩ => ⟨S32x768, .f32⟩
  | .hbm, ⟨4, _⟩ => ⟨S32, .f32⟩
  | .hbm, ⟨5, _⟩ => ⟨S8192x768, .f32⟩
  | .hbm, ⟨6, _⟩ => ⟨S1x8192, .f32⟩
  | .hbm, ⟨7, _⟩ => ⟨S1x32, .f32⟩
  | .hbm, ⟨8, _⟩ => ⟨S8192x8, .i32⟩
  | .hbm, ⟨9, _⟩ => ⟨S8192x32, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1x1024, .f32⟩
  | .local _ .vmem, ⟨5, _⟩ => ⟨S1x1024, .f32⟩
  | .local _ .vmem, ⟨6, _⟩ => ⟨S32x768, .f32⟩
  | .local _ .vmem, ⟨7, _⟩ => ⟨S1x32, .f32⟩
  | .local _ .vmem, ⟨8, _⟩ => ⟨S1024x8, .i32⟩
  | .local _ .vmem, ⟨9, _⟩ => ⟨S1024x8, .i32⟩
  | .local _ .vmem, ⟨10, _⟩ => ⟨S1024x32, .f32⟩
  | .local _ .vmem, ⟨11, _⟩ => ⟨S1024x32, .f32⟩
  | .local _ .vmem, ⟨12, _⟩ => ⟨S8x1024x128, .f32⟩
  | .local _ .vmem, ⟨13, _⟩ => ⟨S8x1024x128, .i32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v143 : BitVec 1 := Scalar.cmpi .eq arg1 c7_i32
  let v144 : BitVec 32 := Scalar.extui v143
  let c0_i32_9 : BitVec 32 := 0#32
  let v145 : BitVec 1 := Scalar.cmpi .ne v144 c0_i32_9
  v145

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S32x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x8 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4x2048x768 : Shape := ⟨3, ![4, 2048, 768]⟩
abbrev S8192x768 : Shape := ⟨2, ![8192, 768]⟩
abbrev S8192 : Shape := ⟨1, ![8192]⟩
abbrev S32x768 : Shape := ⟨2, ![32, 768]⟩
abbrev S32 : Shape := ⟨1, ![32]⟩
abbrev S4x2048x8192 : Shape := ⟨3, ![4, 2048, 8192]⟩
abbrev S1x1x8192 : Shape := ⟨3, ![1, 1, 8192]⟩
abbrev S4x2048x8 : Shape := ⟨3, ![4, 2048, 8]⟩
abbrev S4x2048x32 : Shape := ⟨3, ![4, 2048, 32]⟩
abbrev S1x1x32 : Shape := ⟨3, ![1, 1, 32]⟩
abbrev S4x2048x8x4 : Shape := ⟨4, ![4, 2048, 8, 4]⟩
abbrev S_ : Shape := ⟨0, ![]⟩
abbrev S4x2048 : Shape := ⟨2, ![4, 2048]⟩
abbrev S4x2048x1 : Shape := ⟨3, ![4, 2048, 1]⟩
abbrev S4x2048x8x1 : Shape := ⟨4, ![4, 2048, 8, 1]⟩
abbrev S8192x8 : Shape := ⟨2, ![8192, 8]⟩
abbrev S8192x32 : Shape := ⟨2, ![8192, 32]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S8192x768, .f32⟩
  | .hbm, ⟨2, _⟩ => ⟨S8192, .f32⟩
  | .hbm, ⟨3, _⟩ => ⟨S32x768, .f32⟩
  | .hbm, ⟨4, _⟩ => ⟨S32, .f32⟩
  | .hbm, ⟨5, _⟩ => ⟨S4x2048x8192, .f32⟩
  | .hbm, ⟨6, _⟩ => ⟨S1x1x8192, .f32⟩
  | .hbm, ⟨7, _⟩ => ⟨S4x2048x8192, .f32⟩
  | .hbm, ⟨8, _⟩ => ⟨S4x2048x8192, .f32⟩
  | .hbm, ⟨9, _⟩ => ⟨S4x2048x8, .f32⟩
  | .hbm, ⟨10, _⟩ => ⟨S4x2048x8, .i32⟩
  | .hbm, ⟨11, _⟩ => ⟨S4x2048x32, .f32⟩
  | .hbm, ⟨12, _⟩ => ⟨S1x1x32, .f32⟩
  | .hbm, ⟨13, _⟩ => ⟨S4x2048x32, .f32⟩
  | .hbm, ⟨14, _⟩ => ⟨S4x2048x32, .f32⟩
  | .hbm, ⟨15, _⟩ => ⟨S4x2048x8x4, .f32⟩
  | .hbm, ⟨16, _⟩ => ⟨S_, .f32⟩
  | .hbm, ⟨17, _⟩ => ⟨S4x2048, .f32⟩
  | .hbm, ⟨18, _⟩ => ⟨S_, .f32⟩
  | .hbm, ⟨19, _⟩ => ⟨S4x2048, .f32⟩
  | .hbm, ⟨20, _⟩ => ⟨S4x2048, .f32⟩
  | .hbm, ⟨21, _⟩ => ⟨S4x2048x1, .f32⟩
  | .hbm, ⟨22, _⟩ => ⟨S4x2048x8, .f32⟩
  | .hbm, ⟨23, _⟩ => ⟨S4x2048x8, .f32⟩
  | .hbm, ⟨24, _⟩ => ⟨S4x2048x8, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S4x2048x8, .f32⟩
  | .hbm, ⟨29, _⟩ => ⟨S4x2048x8, .f32⟩
  | .hbm, ⟨30, _⟩ => ⟨S4x2048x8x1, .f32⟩
  | .hbm, ⟨31, _⟩ => ⟨S4x2048x8x4, .f32⟩
  | .hbm, ⟨32, _⟩ => ⟨S4x2048x8x4, .f32⟩
  | .hbm, ⟨33, _⟩ => ⟨S4x2048x8x4, .f32⟩
  | .hbm, ⟨34, _⟩ => ⟨S_, .f32⟩
  | .hbm, ⟨35, _⟩ => ⟨S4x2048x8, .f32⟩
  | .hbm, ⟨36, _⟩ => ⟨S4x2048x8x1, .f32⟩
  | .hbm, ⟨37, _⟩ => ⟨S4x2048x8x1, .f32⟩
  | .hbm, ⟨38, _⟩ => ⟨S_, .f32⟩
  | .hbm, ⟨39, _⟩ => ⟨S4x2048x8x1, .f32⟩
  | .hbm, ⟨40, _⟩ => ⟨S4x2048x8x1, .f32⟩
  | .hbm, ⟨41, _⟩ => ⟨S4x2048x8x4, .f32⟩
  | .hbm, ⟨42, _⟩ => ⟨S4x2048x8x4, .f32⟩
  | .hbm, ⟨43, _⟩ => ⟨S8192x8, .i32⟩
  | .hbm, ⟨44, _⟩ => ⟨S8192x32, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_values : Ref sig .tc := ⟨.hbm, 9, rfl⟩
abbrev main_indices : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_call0_v2 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Proof.Net.lean ====
/-
  A compare-exchange network on eight registers of (value, id) pairs, as the kernel runs it: one register is a pair of
  vectors, a float vector of values and an integer vector of ids, and one exchange acts on every index of the vectors at
  once. Read at one index, a network of such exchanges is the library's `Network.applyBy` on the eight (value, id) pairs
  found there, keyed by the value.
-/
module

public import Idealize.ShloMosaic.PureOps
public import Idealize.ShloMosaic.PureOps.Ideal
public import Idealize.ShloMosaic.Lib.SortNet.Keyed
public import Idealize.ShloMosaic.Lib.SortNet.OddEven
public import Idealize.ShloMosaic.Lib.SortNet.Lists

@[expose] public section

noncomputable section

namespace Cert.TopNet

open Idealize.ShloMosaic Idealize.ShloMosaic.SortNet

variable {F : FTy → Type} [FloatOps F] {s : Shape}

/-- Eight registers, each a vector of values and a vector of ids. -/
abbrev Regs (F : FTy → Type) (s : Shape) : Type := Fin 8 → FVec F s .f32 × IVec s 32

/-- One exchange: where the value at `hi` is at least the value at `lo` both registers stay, elsewhere they swap. -/
def exchange (c : Cmpx 8) (x : Regs F s) : Regs F s := fun k =>
  if k = c.hi then
    (select (cmpf .oge (x c.hi).1 (x c.lo).1) (x c.hi).1 (x c.lo).1,
      select (cmpf .oge (x c.hi).1 (x c.lo).1) (x c.hi).2 (x c.lo).2)
  else if k = c.lo then
    (select (cmpf .oge (x c.hi).1 (x c.lo).1) (x c.lo).1 (x c.hi).1,
      select (cmpf .oge (x c.hi).1 (x c.lo).1) (x c.lo).2 (x c.hi).2)
  else x k

/-- A network of exchanges, first to last. -/
def run (N : Network 8) (x : Regs F s) : Regs F s := N.foldl (fun x c => exchange c x) x

/-- The eight (value, id) pairs the registers hold at one index. -/
def at' (x : Regs Ideal s) (p : s.Idx) : Fin 8 → EReal × BitVec 32 := fun k => ((x k).1 p, (x k).2 p)

/-- A select on "`a` is at least `b`", read at one index. -/
theorem select_oge {α : Type} (a b : FVec Ideal s .f32) (x y : s.Idx → α) (p : s.Idx) :
    select (cmpf .oge a b) x y p = if (a p : EReal) < b p then y p else x p := by
  show (if BitVec.ofBool (decide ((b p : EReal) ≤ a p)) = 1#1 then x p else y p) = _
  by_cases h : (a p : EReal) < b p
  · rw [if_pos h, decide_eq_false (not_le.mpr h)]
    rfl
  · rw [if_neg h, decide_eq_true (not_lt.mp h)]
    rfl

/-- One exchange, read at one index. -/
theorem at_exchange (c : Cmpx 8) (x : Regs Ideal s) (p : s.Idx) :
    at' (exchange c x) p = Cmpx.applyBy Prod.fst c (at' x p) := by
  funext k
  unfold at' exchange
  by_cases hh : k = c.hi
  · subst hh
    rw [Cmpx.applyBy_hi]
    simp only [if_true, select_oge]
    by_cases h : ((x c.hi).1 p : EReal) < (x c.lo).1 p
    · simp only [if_pos h]
    · simp only [if_neg h]
  · by_cases hl : k = c.lo
    · subst hl
      rw [Cmpx.applyBy_lo]
      simp only [if_neg hh, if_true, select_oge]
      by_cases h : ((x c.hi).1 p : EReal) < (x c.lo).1 p
      · simp only [if_pos h]
      · simp only [if_neg h]
    · rw [Cmpx.applyBy_other _ _ _ _ hl hh]
      simp only [if_neg hh, if_neg hl]

/-- A network of exchanges, read at one index. -/
theorem at_run (N : Network 8) (x : Regs Ideal s) (p : s.Idx) :
    at' (run N x) p = Network.applyBy Prod.fst N (at' x p) := by
  induction N generalizing x with
  | nil => rfl
  | cons c N ih =>
    rw [Network.applyBy_cons, ← at_exchange]
    exact ih (exchange c x)

/-- Register by register, the pair with the greater value of list `l` read forwards and list `r` read backwards. -/
def keepMax (l r : Regs F s) : Regs F s := fun k =>
  (select (cmpf .oge (l k).1 (r k.rev).1) (l k).1 (r k.rev).1,
    select (cmpf .oge (l k).1 (r k.rev).1) (l k).2 (r k.rev).2)

/-- It keeps one of the two pairs whole, and the value it keeps is the greater. -/
theorem at_keepMax (l r : Regs Ideal s) (p : s.Idx) (k : Fin 8) :
    (at' (keepMax l r) p k = at' l p k ∨ at' (keepMax l r) p k = at' r p k.rev) ∧
      (at' (keepMax l r) p k).1 = max (at' l p k).1 (at' r p k.rev).1 := by
  unfold at' keepMax
  simp only [select_oge]
  by_cases h : ((l k).1 p : EReal) < (r k.rev).1 p
  · simp only [if_pos h]
    exact ⟨.inr trivial, (max_eq_right h.le).symm⟩
  · simp only [if_neg h]
    exact ⟨.inl trivial, (max_eq_left (not_lt.mp h)).symm⟩

/-- Eight pairs that hold the eight greatest entries of the list `l`, greatest first, each pair meeting `P`. -/
structure Holds (l : List EReal) (P : EReal × BitVec 32 → Prop) (v : Fin 8 → EReal × BitVec 32) : Prop where
  descending : Antitone fun k => (v k).1
  values : List.ofFn (fun k => (v k).1) = topList 8 l
  each : ∀ k, P (v k)

theorem Holds.mono {l : List EReal} {P Q : EReal × BitVec 32 → Prop} {v : Fin 8 → EReal × BitVec 32} (h : Holds l P v)
    (hPQ : ∀ x, P x → Q x) : Holds l Q v := ⟨h.descending, h.values, fun k => hPQ _ (h.each k)⟩

/-- Whatever every pair meets before a network, every pair meets after it. -/
theorem each_applyBy {P : EReal × BitVec 32 → Prop} (N : Network 8) {v : Fin 8 → EReal × BitVec 32} (h : ∀ k, P (v k)) (k : Fin 8) :
    P (Network.applyBy Prod.fst N v k) := by
  obtain ⟨σ, hσ⟩ := Network.exists_perm_applyBy Prod.fst N v
  rw [hσ]
  exact h (σ k)

/-- Eight registers sorted: at each index they hold that index's eight values, greatest first, each with its id. -/
theorem sorted {P : EReal × BitVec 32 → Prop} (x : Regs Ideal s) (p : s.Idx) (h : ∀ k, P (at' x p k)) :
    Holds (List.ofFn fun k => (at' x p k).1) P (at' (run (oddEvenNet 3) x) p) := by
  have hk := Network.key_comp_applyBy Prod.fst (oddEvenNet 3) (at' x p)
  refine ⟨?_, ?_, ?_⟩
  · rw [at_run]
    have := oddEvenNet_three_antitone (Prod.fst ∘ at' x p)
    rw [← hk] at this
    exact this
  · rw [at_run]
    have := ofFn_oddEvenNet_three (Prod.fst ∘ at' x p)
    rw [← hk] at this
    exact this
  · intro k
    rw [at_run]
    exact each_applyBy (oddEvenNet 3) h k

/-- Two lists of eight merged: at each index the registers hold the eight greatest of the two lists' entries together. -/
theorem merged {P : EReal × BitVec 32 → Prop} (l r : Regs Ideal s) (p : s.Idx) {A B : List EReal} (hl : Holds A P (at' l p))
    (hr : Holds B P (at' r p)) : Holds (A ++ B) P (at' (run (mergePairsNet 3) (keepMax l r)) p) := by
  have hk := Network.key_comp_applyBy Prod.fst (mergePairsNet 3) (at' (keepMax l r) p)
  have hm : (Prod.fst ∘ at' (keepMax l r) p) = fun j => max (at' l p j).1 (at' r p (Fin.rev j)).1 :=
    funext fun j => (at_keepMax l r p j).2
  have ht := topOfTwo_eq_topList 3 (fun k => (at' l p k).1) (fun k => (at' r p k).1) hl.descending hr.descending
  rw [← mergePairsNet_eq_mergeDescNet] at ht
  rw [hm] at hk
  have h1 : Antitone (Prod.fst ∘ Network.applyBy Prod.fst (mergePairsNet 3) (at' (keepMax l r) p)) := by
    rw [hk]
    exact ht.1
  have h2 : List.ofFn (Prod.fst ∘ Network.applyBy Prod.fst (mergePairsNet 3) (at' (keepMax l r) p)) =
      topList (2 ^ 3) (List.ofFn (fun k => (at' l p k).1) ++ List.ofFn (fun k => (at' r p k).1)) := by
    rw [hk]
    exact ht.2
  refine ⟨?_, ?_, ?_⟩
  · rw [at_run]
    exact h1
  · rw [at_run]
    refine h2.trans ?_
    have e1 : List.ofFn (fun k => (at' l p k).1) = topList 8 A := hl.values
    have e2 : List.ofFn (fun k => (at' r p k).1) = topList 8 B := hr.values
    have e3 : ∀ (a b : List EReal), a = topList 8 A → b = topList 8 B → topList (2 ^ 3) (a ++ b) = topList 8 (A ++ B) := by
      rintro a b rfl rfl
      exact topList_append_topList_topList 8 A B
    exact e3 _ _ e1 e2
  · intro k
    rw [at_run]
    refine each_applyBy (mergePairsNet 3) (fun k => ?_) k
    rcases (at_keepMax l r p k).1 with h | h
    · rw [h]
      exact hl.each k
    · rw [h]
      exact hr.each k.rev

end Cert.TopNet
-- ==== Proof.Registers.lean ====
/-
  What one grid point's body computes, as networks on registers. The 1024 × 1024 block of scores is cut into 8 columns of 128
  lanes, each with the prime ids of its lanes, and the eight columns are sorted against each other (`tile_eq`). From the second
  tile on, the eight registers carried from the tile before are merged with the sorted ones (`merge_eq`). The right-hand sides
  are the values of the body's own equations.
-/
module

public import proofs.«01_k».proof.Proof.Gen.KernelIdeal.Frame
public import proofs.«01_k».proof.Proof.Net

@[expose] public section

set_option maxRecDepth 16384

noncomputable section

namespace Cert.Top8

open Idealize.ShloMosaic Idealize.ShloMosaic.TcCoe Idealize.ShloMosaic.SortNet Cert.KernelIdeal Cert.KernelIdeal.Gen Cert.TopNet

variable {F : FTy → Type} [FloatOps F] (i : grid0.Coords)

/-- The eight columns of a block's scores, each with the prime ids of its lanes. -/
def cols (v0 v2 : Vec F S1024x768 .f32) (v4 : Vec F S1x1024 .f32) : Regs F S1024x128 :=
  ![(k0_pay260 v0 v2 v4, k0_pay268 i), (k0_pay261 v0 v2 v4, k0_pay269 i), (k0_pay262 v0 v2 v4, k0_pay270 i), (k0_pay263 v0 v2 v4, k0_pay271 i), (k0_pay264 v0 v2 v4, k0_pay272 i), (k0_pay265 v0 v2 v4, k0_pay273 i), (k0_pay266 v0 v2 v4, k0_pay274 i), (k0_pay267 v0 v2 v4, k0_pay275 i)]

/-- The columns sorted: register 0 holds the greatest value of each lane. -/
def tile (v0 v2 : Vec F S1024x768 .f32) (v4 : Vec F S1x1024 .f32) : Regs F S1024x128 := run (oddEvenNet 3) (cols i v0 v2 v4)

/-- The sort's first twelve exchanges. -/
def sortFirst : Network 8 :=
  [⟨1, 0, by decide⟩, ⟨3, 2, by decide⟩, ⟨5, 4, by decide⟩, ⟨7, 6, by decide⟩,
    ⟨2, 0, by decide⟩, ⟨3, 1, by decide⟩, ⟨6, 4, by decide⟩, ⟨7, 5, by decide⟩,
    ⟨2, 1, by decide⟩, ⟨6, 5, by decide⟩, ⟨4, 0, by decide⟩, ⟨5, 1, by decide⟩]

/-- The sort's last seven exchanges. -/
def sortRest : Network 8 :=
  [⟨6, 2, by decide⟩, ⟨7, 3, by decide⟩, ⟨4, 2, by decide⟩, ⟨5, 3, by decide⟩,
    ⟨2, 1, by decide⟩, ⟨4, 3, by decide⟩, ⟨6, 5, by decide⟩]

/-- The registers after the first twelve exchanges. -/
def halfSorted (v0 v2 : Vec F S1024x768 .f32) (v4 : Vec F S1x1024 .f32) : Regs F S1024x128 :=
  ![(k0_pay327 (k0_pay260 v0 v2 v4) (k0_pay261 v0 v2 v4) (k0_pay262 v0 v2 v4) (k0_pay263 v0 v2 v4)
      (k0_pay264 v0 v2 v4) (k0_pay265 v0 v2 v4) (k0_pay266 v0 v2 v4) (k0_pay267 v0 v2 v4),
      k0_pay328 (k0_pay260 v0 v2 v4) (k0_pay261 v0 v2 v4) (k0_pay262 v0 v2 v4) (k0_pay263 v0 v2 v4)
      (k0_pay264 v0 v2 v4) (k0_pay265 v0 v2 v4) (k0_pay266 v0 v2 v4) (k0_pay267 v0 v2 v4)
      (k0_pay268 i) (k0_pay269 i) (k0_pay270 i) (k0_pay271 i)
      (k0_pay272 i) (k0_pay273 i) (k0_pay274 i) (k0_pay275 i)),
    (k0_pay332 (k0_pay260 v0 v2 v4) (k0_pay261 v0 v2 v4) (k0_pay262 v0 v2 v4) (k0_pay263 v0 v2 v4)
      (k0_pay264 v0 v2 v4) (k0_pay265 v0 v2 v4) (k0_pay266 v0 v2 v4) (k0_pay267 v0 v2 v4),
      k0_pay333 (k0_pay260 v0 v2 v4) (k0_pay261 v0 v2 v4) (k0_pay262 v0 v2 v4) (k0_pay263 v0 v2 v4)
      (k0_pay264 v0 v2 v4) (k0_pay265 v0 v2 v4) (k0_pay266 v0 v2 v4) (k0_pay267 v0 v2 v4)
      (k0_pay268 i) (k0_pay269 i) (k0_pay270 i) (k0_pay271 i)
      (k0_pay272 i) (k0_pay273 i) (k0_pay274 i) (k0_pay275 i)),
    (k0_pay319 (k0_pay260 v0 v2 v4) (k0_pay261 v0 v2 v4) (k0_pay262 v0 v2 v4) (k0_pay263 v0 v2 v4),
      k0_pay320 (k0_pay260 v0 v2 v4) (k0_pay261 v0 v2 v4) (k0_pay262 v0 v2 v4) (k0_pay263 v0 v2 v4)
      (k0_pay268 i) (k0_pay269 i) (k0_pay270 i) (k0_pay271 i)),
    (k0_pay304 (k0_pay260 v0 v2 v4) (k0_pay261 v0 v2 v4) (k0_pay262 v0 v2 v4) (k0_pay263 v0 v2 v4),
      k0_pay305 (k0_pay260 v0 v2 v4) (k0_pay261 v0 v2 v4) (k0_pay262 v0 v2 v4) (k0_pay263 v0 v2 v4)
      (k0_pay268 i) (k0_pay269 i) (k0_pay270 i) (k0_pay271 i)),
    (k0_pay329 (k0_pay260 v0 v2 v4) (k0_pay261 v0 v2 v4) (k0_pay262 v0 v2 v4) (k0_pay263 v0 v2 v4)
      (k0_pay264 v0 v2 v4) (k0_pay265 v0 v2 v4) (k0_pay266 v0 v2 v4) (k0_pay267 v0 v2 v4),
      k0_pay330 (k0_pay260 v0 v2 v4) (k0_pay261 v0 v2 v4) (k0_pay262 v0 v2 v4) (k0_pay263 v0 v2 v4)
      (k0_pay264 v0 v2 v4) (k0_pay265 v0 v2 v4) (k0_pay266 v0 v2 v4) (k0_pay267 v0 v2 v4)
      (k0_pay268 i) (k0_pay269 i) (k0_pay270 i) (k0_pay271 i)
      (k0_pay272 i) (k0_pay273 i) (k0_pay274 i) (k0_pay275 i)),
    (k0_pay334 (k0_pay260 v0 v2 v4) (k0_pay261 v0 v2 v4) (k0_pay262 v0 v2 v4) (k0_pay263 v0 v2 v4)
      (k0_pay264 v0 v2 v4) (k0_pay265 v0 v2 v4) (k0_pay266 v0 v2 v4) (k0_pay267 v0 v2 v4),
      k0_pay335 (k0_pay260 v0 v2 v4) (k0_pay261 v0 v2 v4) (k0_pay262 v0 v2 v4) (k0_pay263 v0 v2 v4)
      (k0_pay264 v0 v2 v4) (k0_pay265 v0 v2 v4) (k0_pay266 v0 v2 v4) (k0_pay267 v0 v2 v4)
      (k0_pay268 i) (k0_pay269 i) (k0_pay270 i) (k0_pay271 i)
      (k0_pay272 i) (k0_pay273 i) (k0_pay274 i) (k0_pay275 i)),
    (k0_pay324 (k0_pay264 v0 v2 v4) (k0_pay265 v0 v2 v4) (k0_pay266 v0 v2 v4) (k0_pay267 v0 v2 v4),
      k0_pay325 (k0_pay264 v0 v2 v4) (k0_pay265 v0 v2 v4) (k0_pay266 v0 v2 v4) (k0_pay267 v0 v2 v4)
      (k0_pay272 i) (k0_pay273 i) (k0_pay274 i) (k0_pay275 i)),
    (k0_pay314 (k0_pay264 v0 v2 v4) (k0_pay265 v0 v2 v4) (k0_pay266 v0 v2 v4) (k0_pay267 v0 v2 v4),
      k0_pay315 (k0_pay264 v0 v2 v4) (k0_pay265 v0 v2 v4) (k0_pay266 v0 v2 v4) (k0_pay267 v0 v2 v4)
      (k0_pay272 i) (k0_pay273 i) (k0_pay274 i) (k0_pay275 i))]

/-- The registers after the last seven. -/
def restSorted (x : Regs F S1024x128) : Regs F S1024x128 :=
  ![x 0,
    (k0_pay22 (x 2).1 (x 6).1 (x 4).1 (x 1).1,
      k0_pay23 (x 2).1 (x 2).2 (x 6).1 (x 6).2 (x 4).1 (x 4).2 (x 1).1 (x 1).2),
    (k0_pay24 (x 2).1 (x 6).1 (x 4).1 (x 1).1,
      k0_pay25 (x 2).1 (x 2).2 (x 6).1 (x 6).2 (x 4).1 (x 4).2 (x 1).1 (x 1).2),
    (k0_pay27 (x 3).1 (x 7).1 (x 2).1 (x 6).1 (x 4).1 (x 5).1,
      k0_pay28 (x 3).1 (x 3).2 (x 7).1 (x 7).2 (x 2).1 (x 2).2 (x 6).1 (x 6).2 (x 4).1 (x 4).2 (x 5).1 (x 5).2),
    (k0_pay29 (x 3).1 (x 7).1 (x 2).1 (x 6).1 (x 4).1 (x 5).1,
      k0_pay30 (x 3).1 (x 3).2 (x 7).1 (x 7).2 (x 2).1 (x 2).2 (x 6).1 (x 6).2 (x 4).1 (x 4).2 (x 5).1 (x 5).2),
    (k0_pay32 (x 3).1 (x 7).1 (x 2).1 (x 6).1 (x 5).1,
      k0_pay33 (x 3).1 (x 3).2 (x 7).1 (x 7).2 (x 2).1 (x 2).2 (x 6).1 (x 6).2 (x 5).1 (x 5).2),
    (k0_pay34 (x 3).1 (x 7).1 (x 2).1 (x 6).1 (x 5).1,
      k0_pay35 (x 3).1 (x 3).2 (x 7).1 (x 7).2 (x 2).1 (x 2).2 (x 6).1 (x 6).2 (x 5).1 (x 5).2),
    (k0_pay9 (x 3).1 (x 7).1,
      k0_pay10 (x 3).1 (x 3).2 (x 7).1 (x 7).2)]

theorem run_sortFirst (v0 v2 : Vec F S1024x768 .f32) (v4 : Vec F S1x1024 .f32) :
    run sortFirst (cols i v0 v2 v4) = halfSorted i v0 v2 v4 := by
  funext k; fin_cases k <;> rfl

theorem run_sortRest (x : Regs F S1024x128) : run sortRest x = restSorted x := by
  funext k; fin_cases k <;> rfl

theorem tile_eq (v0 v2 : Vec F S1024x768 .f32) (v4 : Vec F S1x1024 .f32) :
    tile i v0 v2 v4 = restSorted (halfSorted i v0 v2 v4) := by
  have h : oddEvenNet 3 = sortFirst ++ sortRest := oddEvenNet_three_eq
  unfold tile run
  rw [h, List.foldl_append]
  exact (congrArg (run sortRest) (run_sortFirst i v0 v2 v4)).trans (run_sortRest _)

/-- Eight stored rows of values and eight of ids, each without its unit axis. -/
def loaded (X : Fin 8 → FVec F S1x1024x128 .f32) (Y : Fin 8 → IVec S1x1024x128 32) : Regs F S1024x128 := fun k =>
  (shapeCast S1024x128 (X k) shapeCasts_S1x1024x128_S1024x128, shapeCast S1024x128 (Y k) shapeCasts_S1x1024x128_S1024x128)

/-- The merge's first four exchanges. -/
def mergeFirst : Network 8 := [⟨4, 0, by decide⟩, ⟨5, 1, by decide⟩, ⟨6, 2, by decide⟩, ⟨7, 3, by decide⟩]

/-- The merge's last eight exchanges. -/
def mergeRest : Network 8 :=
  [⟨2, 0, by decide⟩, ⟨3, 1, by decide⟩, ⟨6, 4, by decide⟩, ⟨7, 5, by decide⟩,
    ⟨1, 0, by decide⟩, ⟨3, 2, by decide⟩, ⟨5, 4, by decide⟩, ⟨7, 6, by decide⟩]

/-- The registers after the first four exchanges of the merge of stored rows with sorted registers `x`. -/
def mergeHalf (X : Fin 8 → FVec F S1x1024x128 .f32) (Y : Fin 8 → IVec S1x1024x128 32) (x : Regs F S1024x128) : Regs F S1024x128 :=
  ![(k0_pay95 (x 7).1 (x 3).1 (k0_pay58 (X 0)) (k0_pay62 (X 4)),
      k0_pay96 (x 7).1 (x 7).2 (x 3).1 (x 3).2 (k0_pay58 (X 0)) (k0_pay62 (X 4)) (k0_pay66 (F := F) (Y 0)) (Y 4)),
    (k0_pay100 (x 2).1 (x 6).1 (k0_pay59 (X 1)) (k0_pay63 (X 5)),
      k0_pay101 (x 2).1 (x 2).2 (x 6).1 (x 6).2 (k0_pay59 (X 1)) (k0_pay63 (X 5)) (k0_pay67 (F := F) (Y 1)) (Y 5)),
    (k0_pay105 (x 1).1 (x 5).1 (k0_pay60 (X 2)) (k0_pay64 (X 6)),
      k0_pay106 (x 1).1 (x 1).2 (x 5).1 (x 5).2 (k0_pay60 (X 2)) (k0_pay64 (X 6)) (k0_pay68 (F := F) (Y 2)) (Y 6)),
    (select (k0_pay109 (x 0).1 (x 4).1 (k0_pay61 (X 3)) (k0_pay65 (X 7))) (k0_pay80 (x 4).1 (k0_pay61 (X 3))) (k0_pay92 (x 0).1 (k0_pay65 (X 7))),
      select (k0_pay109 (x 0).1 (x 4).1 (k0_pay61 (X 3)) (k0_pay65 (X 7))) (k0_pay81 (x 4).1 (x 4).2 (k0_pay61 (X 3)) (k0_pay69 (F := F) (Y 3))) (k0_pay93 (x 0).1 (x 0).2 (k0_pay65 (X 7)) (Y 7))),
    (k0_pay97 (x 7).1 (x 3).1 (k0_pay58 (X 0)) (k0_pay62 (X 4)),
      k0_pay98 (x 7).1 (x 7).2 (x 3).1 (x 3).2 (k0_pay58 (X 0)) (k0_pay62 (X 4)) (k0_pay66 (F := F) (Y 0)) (Y 4)),
    (k0_pay102 (x 2).1 (x 6).1 (k0_pay59 (X 1)) (k0_pay63 (X 5)),
      k0_pay103 (x 2).1 (x 2).2 (x 6).1 (x 6).2 (k0_pay59 (X 1)) (k0_pay63 (X 5)) (k0_pay67 (F := F) (Y 1)) (Y 5)),
    (k0_pay107 (x 1).1 (x 5).1 (k0_pay60 (X 2)) (k0_pay64 (X 6)),
      k0_pay108 (x 1).1 (x 1).2 (x 5).1 (x 5).2 (k0_pay60 (X 2)) (k0_pay64 (X 6)) (k0_pay68 (F := F) (Y 2)) (Y 6)),
    (select (k0_pay109 (x 0).1 (x 4).1 (k0_pay61 (X 3)) (k0_pay65 (X 7))) (k0_pay92 (x 0).1 (k0_pay65 (X 7))) (k0_pay80 (x 4).1 (k0_pay61 (X 3))),
      select (k0_pay109 (x 0).1 (x 4).1 (k0_pay61 (X 3)) (k0_pay65 (X 7))) (k0_pay93 (x 0).1 (x 0).2 (k0_pay65 (X 7)) (Y 7)) (k0_pay81 (x 4).1 (x 4).2 (k0_pay61 (X 3)) (k0_pay69 (F := F) (Y 3))))]

/-- The registers after the last eight, from registers `x` whose third and seventh are selects by `c`. -/
def mergeEnd (x : Regs F S1024x128) (h3 h7 : FVec F S1024x128 .f32) (h3' h7' : IVec S1024x128 32) (c : IVec S1024x128 1) :
    Regs F S1024x128 :=
  ![(select (k0_pay134 h3 h7 (x 0).1 (x 1).1 (x 2).1 c) (k0_pay115 (x 0).1 (x 2).1) (k0_pay120 h3 h7 (x 1).1 c),
      select (k0_pay134 h3 h7 (x 0).1 (x 1).1 (x 2).1 c) (k0_pay116 (x 0).1 (x 0).2 (x 2).1 (x 2).2) (k0_pay121 h3 h3' h7 h7' (x 1).1 (x 1).2 c)),
    (k0_pay135 h3 h7 (x 0).1 (x 1).1 (x 2).1 c,
      k0_pay136 h3 h3' h7 h7' (x 0).1 (x 0).2 (x 1).1 (x 1).2 (x 2).1 (x 2).2 c),
    (k0_pay138 h3 h7 (x 0).1 (x 1).1 (x 2).1 c,
      k0_pay139 h3 h3' h7 h7' (x 0).1 (x 0).2 (x 1).1 (x 1).2 (x 2).1 (x 2).2 c),
    (k0_pay140 h3 h7 (x 0).1 (x 1).1 (x 2).1 c,
      k0_pay141 h3 h3' h7 h7' (x 0).1 (x 0).2 (x 1).1 (x 1).2 (x 2).1 (x 2).2 c),
    (k0_pay143 h3 h7 (x 4).1 (x 5).1 (x 6).1 c,
      k0_pay144 h3 h3' h7 h7' (x 4).1 (x 4).2 (x 5).1 (x 5).2 (x 6).1 (x 6).2 c),
    (k0_pay145 h3 h7 (x 4).1 (x 5).1 (x 6).1 c,
      k0_pay146 h3 h3' h7 h7' (x 4).1 (x 4).2 (x 5).1 (x 5).2 (x 6).1 (x 6).2 c),
    (k0_pay148 h3 h7 (x 4).1 (x 5).1 (x 6).1 c,
      k0_pay149 h3 h3' h7 h7' (x 4).1 (x 4).2 (x 5).1 (x 5).2 (x 6).1 (x 6).2 c),
    (k0_pay150 h3 h7 (x 4).1 (x 5).1 (x 6).1 c,
      k0_pay151 h3 h3' h7 h7' (x 4).1 (x 4).2 (x 5).1 (x 5).2 (x 6).1 (x 6).2 c)]

theorem run_mergeFirst (X : Fin 8 → FVec F S1x1024x128 .f32) (Y : Fin 8 → IVec S1x1024x128 32) (x : Regs F S1024x128) :
    run mergeFirst (keepMax (loaded X Y) x) = mergeHalf X Y x := by
  funext k; fin_cases k <;> rfl

theorem run_mergeRest (x : Regs F S1024x128) (h3 h7 : FVec F S1024x128 .f32) (h3' h7' : IVec S1024x128 32) (c : IVec S1024x128 1)
    (e3 : x 3 = (select c h3 h7, select c h3' h7')) (e7 : x 7 = (select c h7 h3, select c h7' h3')) :
    run mergeRest x = mergeEnd x h3 h7 h3' h7' c := by
  have hx : x = ![x 0, x 1, x 2, (select c h3 h7, select c h3' h7'), x 4, x 5, x 6, (select c h7 h3, select c h7' h3')] := by
    funext k; fin_cases k <;> first | rfl | exact e3 | exact e7
  rw [hx]
  funext k; fin_cases k <;> rfl

/-- The merge of stored rows with sorted registers. -/
def merge (X : Fin 8 → FVec F S1x1024x128 .f32) (Y : Fin 8 → IVec S1x1024x128 32) (x : Regs F S1024x128) : Regs F S1024x128 :=
  run (mergePairsNet 3) (keepMax (loaded X Y) x)

theorem merge_eq (X : Fin 8 → FVec F S1x1024x128 .f32) (Y : Fin 8 → IVec S1x1024x128 32) (x : Regs F S1024x128) :
    merge X Y x = mergeEnd (mergeHalf X Y x) (k0_pay80 (x 4).1 (k0_pay61 (X 3))) (k0_pay92 (x 0).1 (k0_pay65 (X 7)))
      (k0_pay81 (x 4).1 (x 4).2 (k0_pay61 (X 3)) (k0_pay69 (F := F) (Y 3))) (k0_pay93 (x 0).1 (x 0).2 (k0_pay65 (X 7)) (Y 7))
      (k0_pay109 (x 0).1 (x 4).1 (k0_pay61 (X 3)) (k0_pay65 (X 7))) := by
  have h : mergePairsNet 3 = mergeFirst ++ mergeRest := mergePairsNet_three_eq
  unfold merge run
  rw [h, List.foldl_append]
  exact (congrArg (run mergeRest) (run_mergeFirst X Y x)).trans (run_mergeRest _ _ _ _ _ _ rfl rfl)

end Cert.Top8
-- ==== Proof.Pieces.lean ====
/-
  What one grid point leaves in the two carried buffers. Each is eight stored rows, one per register, so the buffer is the stack
  of the registers (`canon_rows`): at a row block's first tile the sorted columns, at a later tile the merge of the carried rows
  with them.
-/
module

public import proofs.«01_k».proof.Proof.Registers
public import Idealize.ShloMosaic.Lib.Pipeline.ValueKit.Stack
public import Idealize.ShloMosaic.Lib.Pipeline.CanonAppend
public import Idealize.ShloMosaic.Lib.WholeRead

@[expose] public section

set_option maxRecDepth 16384

noncomputable section

namespace Cert.Top8

open Idealize.ShloMosaic Idealize.ShloMosaic.TcCoe Idealize.ShloMosaic.SortNet Cert.KernelIdeal Cert.KernelIdeal.Gen Cert.TopNet

variable {F : FTy → Type} [FloatOps F]

/-- Eight vectors stored as the eight rows of a carried buffer, the last store first. -/
def rows {e : EltTy} (v : Fin 8 → S1024x128.Idx → Elt F e) : List (View.Piece (Elt F) S8x1024x128 e) :=
  [⟨Rect.unit ![7, 0, 0] S1x1024x128.size inb_S8x1024x128_S1x1024x128_7_0_0,
      shapeCast S1x1024x128 (v 7) shapeCasts_S1024x128_S1x1024x128⟩,
    ⟨Rect.unit ![6, 0, 0] S1x1024x128.size inb_S8x1024x128_S1x1024x128_6_0_0,
      shapeCast S1x1024x128 (v 6) shapeCasts_S1024x128_S1x1024x128⟩,
    ⟨Rect.unit ![5, 0, 0] S1x1024x128.size inb_S8x1024x128_S1x1024x128_5_0_0,
      shapeCast S1x1024x128 (v 5) shapeCasts_S1024x128_S1x1024x128⟩,
    ⟨Rect.unit ![4, 0, 0] S1x1024x128.size inb_S8x1024x128_S1x1024x128_4_0_0,
      shapeCast S1x1024x128 (v 4) shapeCasts_S1024x128_S1x1024x128⟩,
    ⟨Rect.unit ![3, 0, 0] S1x1024x128.size inb_S8x1024x128_S1x1024x128_3_0_0,
      shapeCast S1x1024x128 (v 3) shapeCasts_S1024x128_S1x1024x128⟩,
    ⟨Rect.unit ![2, 0, 0] S1x1024x128.size inb_S8x1024x128_S1x1024x128_2_0_0,
      shapeCast S1x1024x128 (v 2) shapeCasts_S1024x128_S1x1024x128⟩,
    ⟨Rect.unit ![1, 0, 0] S1x1024x128.size inb_S8x1024x128_S1x1024x128_1_0_0,
      shapeCast S1x1024x128 (v 1) shapeCasts_S1024x128_S1x1024x128⟩,
    ⟨Rect.unit ![0, 0, 0] S1x1024x128.size inb_S8x1024x128_S1x1024x128_0_0_0,
      shapeCast S1x1024x128 (v 0) shapeCasts_S1024x128_S1x1024x128⟩]

/-- The row stored at `k` is the stack there. -/
theorem stack_row {e : EltTy} (v : Fin 8 → S1024x128.Idx → Elt F e) (k : Fin 8)
    (inb : ∀ a, (![k.val, 0, 0] : Fin 3 → ℕ) a + S1x1024x128.size a ≤ S8x1024x128.size a) (x : S1x1024x128.Idx) :
    shapeCast S1x1024x128 (v k) shapeCasts_S1024x128_S1x1024x128 x
      = stackAlong0 v ((Rect.unit (s := S8x1024x128) ![k.val, 0, 0] S1x1024x128.size inb).emb x) :=
  stack_piece_emb v k shapeCasts_S1024x128_S1x1024x128 ![k.val, 0, 0] inb rfl (fun a => by fin_cases a <;> rfl) x

/-- The stored rows are the stack of the eight vectors. -/
theorem canon_rows {e : EltTy} (v : Fin 8 → S1024x128.Idx → Elt F e) : View.canon (rows (F := F) v) = stackAlong0 v := by
  funext y
  have hc : ∃ p ∈ rows (F := F) v, y ∈ p.1.set := View.cover_of_tiledL (rows (F := F) v) S1x1024x128.size (by sl_kernel_rfl) y
  have h := View.canon_append_of_pieces (stackAlong0 v) [] (rows (F := F) v) ?_ y hc
  · rwa [List.append_nil] at h
  · intro p hp x
    simp only [rows, List.mem_cons, List.not_mem_nil, or_false] at hp
    rcases hp with rfl | rfl | rfl | rfl | rfl | rfl | rfl | rfl
    · exact stack_row v 7 inb_S8x1024x128_S1x1024x128_7_0_0 x
    · exact stack_row v 6 inb_S8x1024x128_S1x1024x128_6_0_0 x
    · exact stack_row v 5 inb_S8x1024x128_S1x1024x128_5_0_0 x
    · exact stack_row v 4 inb_S8x1024x128_S1x1024x128_4_0_0 x
    · exact stack_row v 3 inb_S8x1024x128_S1x1024x128_3_0_0 x
    · exact stack_row v 2 inb_S8x1024x128_S1x1024x128_2_0_0 x
    · exact stack_row v 1 inb_S8x1024x128_S1x1024x128_1_0_0 x
    · exact stack_row v 0 inb_S8x1024x128_S1x1024x128_0_0_0 x

/-- A block loaded whole is the block. -/
def whole2 (m : Memref sig .tc .vmem S1024x768 .f32) (h : m.IsWhole) (x : Vec F S1024x768 .f32) : Vec F S1024x768 .f32 :=
  View.readAt (Elt F) m.view (Rect.unit ![0, 0] S1024x768.size inb_S1024x768_S1024x768_0_0).toLoadRect (h.unread x)

theorem whole2_eq (m : Memref sig .tc .vmem S1024x768 .f32) (h : m.IsWhole) (x : Vec F S1024x768 .f32) : whole2 m h x = x :=
  (funext fun y => h.readAt_unread x _ y).trans (View.ld_unit_zero (by funext a; fin_cases a <;> rfl) inb_S1024x768_S1024x768_0_0 x)

/-- The row of biases loaded whole is the row. -/
def whole1 (m : Memref sig .tc .vmem S1x1024 .f32) (h : m.IsWhole) (x : Vec F S1x1024 .f32) : Vec F S1x1024 .f32 :=
  View.readAt (Elt F) m.view (Rect.unit ![0, 0] S1x1024.size inb_S1x1024_S1x1024_0_0).toLoadRect (h.unread x)

theorem whole1_eq (m : Memref sig .tc .vmem S1x1024 .f32) (h : m.IsWhole) (x : Vec F S1x1024 .f32) : whole1 m h x = x :=
  (funext fun y => h.readAt_unread x _ y).trans (View.ld_unit_zero (by funext a; fin_cases a <;> rfl) inb_S1x1024_S1x1024_0_0 x)

/-- The eight rows of a carried buffer, each loaded under its unit axis. -/
def slices {e : EltTy} (m : Memref sig .tc .vmem S8x1024x128 e) (h : m.IsWhole) (x : Vec F S8x1024x128 e) :
    Fin 8 → Vec F S1x1024x128 e :=
  ![View.readAt (Elt F) m.view (Rect.unit (s := S8x1024x128) ![0, 0, 0] S1x1024x128.size inb_S8x1024x128_S1x1024x128_0_0_0).toLoadRect (h.unread x),
    View.readAt (Elt F) m.view (Rect.unit (s := S8x1024x128) ![1, 0, 0] S1x1024x128.size inb_S8x1024x128_S1x1024x128_1_0_0).toLoadRect (h.unread x),
    View.readAt (Elt F) m.view (Rect.unit (s := S8x1024x128) ![2, 0, 0] S1x1024x128.size inb_S8x1024x128_S1x1024x128_2_0_0).toLoadRect (h.unread x),
    View.readAt (Elt F) m.view (Rect.unit (s := S8x1024x128) ![3, 0, 0] S1x1024x128.size inb_S8x1024x128_S1x1024x128_3_0_0).toLoadRect (h.unread x),
    View.readAt (Elt F) m.view (Rect.unit (s := S8x1024x128) ![4, 0, 0] S1x1024x128.size inb_S8x1024x128_S1x1024x128_4_0_0).toLoadRect (h.unread x),
    View.readAt (Elt F) m.view (Rect.unit (s := S8x1024x128) ![5, 0, 0] S1x1024x128.size inb_S8x1024x128_S1x1024x128_5_0_0).toLoadRect (h.unread x),
    View.readAt (Elt F) m.view (Rect.unit (s := S8x1024x128) ![6, 0, 0] S1x1024x128.size inb_S8x1024x128_S1x1024x128_6_0_0).toLoadRect (h.unread x),
    View.readAt (Elt F) m.view (Rect.unit (s := S8x1024x128) ![7, 0, 0] S1x1024x128.size inb_S8x1024x128_S1x1024x128_7_0_0).toLoadRect (h.unread x)]

/-- Row `k` of a stack is its vector `k` under a unit axis. -/
theorem slice_stack {e : EltTy} (m : Memref sig .tc .vmem S8x1024x128 e) (h : m.IsWhole) (v : Fin 8 → S1024x128.Idx → Elt F e) (k : Fin 8)
    (inb : ∀ a, (![k.val, 0, 0] : Fin 3 → ℕ) a + S1x1024x128.size a ≤ S8x1024x128.size a) :
    View.readAt (Elt F) m.view (Rect.unit (s := S8x1024x128) ![k.val, 0, 0] S1x1024x128.size inb).toLoadRect (h.unread (stackAlong0 v))
      = shapeCast S1x1024x128 (v k) shapeCasts_S1024x128_S1x1024x128 :=
  (funext fun y => h.readAt_unread _ _ y).trans
    (ld_stack v k ![k.val, 0, 0] inb shapeCasts_S1024x128_S1x1024x128 rfl (fun a => by fin_cases a <;> rfl))

theorem slices_stack {e : EltTy} (m : Memref sig .tc .vmem S8x1024x128 e) (h : m.IsWhole) (v : Fin 8 → S1024x128.Idx → Elt F e) (k : Fin 8) :
    slices m h (stackAlong0 v) k = shapeCast S1x1024x128 (v k) shapeCasts_S1024x128_S1x1024x128 := by
  fin_cases k
  · exact slice_stack m h v 0 _
  · exact slice_stack m h v 1 _
  · exact slice_stack m h v 2 _
  · exact slice_stack m h v 3 _
  · exact slice_stack m h v 4 _
  · exact slice_stack m h v 5 _
  · exact slice_stack m h v 6 _
  · exact slice_stack m h v 7 _

/-- A vector put under a unit axis and taken from it again is the vector. -/
theorem unit_axis {α : Type} (v : S1024x128.Idx → α) :
    shapeCast S1024x128 (shapeCast S1x1024x128 v shapeCasts_S1024x128_S1x1024x128) shapeCasts_S1x1024x128_S1024x128 = v := by
  rw [shapeCast_shapeCast]

/-- The rows of two stacks, loaded, are the registers that were stacked. -/
theorem loaded_stack (m : Memref sig .tc .vmem S8x1024x128 .f32) (h : m.IsWhole) (m' : Memref sig .tc .vmem S8x1024x128 .i32)
    (h' : m'.IsWhole) (v : Regs F S1024x128) :
    loaded (slices (F := F) (e := .f32) m h (stackAlong0 fun k => (v k).1))
      (slices (F := F) (e := .i32) m' h' (stackAlong0 fun k => (v k).2)) = v := by
  funext k
  have h1 := slices_stack (F := F) m h (fun k => (v k).1) k
  have h2 := slices_stack (F := F) m' h' (fun k => (v k).2) k
  refine Prod.ext ?_ ?_
  · exact (congrArg (fun z => shapeCast S1024x128 z shapeCasts_S1x1024x128_S1024x128) h1).trans (unit_axis _)
  · exact (congrArg (fun z => shapeCast S1024x128 z shapeCasts_S1x1024x128_S1024x128) h2).trans (unit_axis _)

/-- The merged registers as the body computes them. -/
def mergedRegs (i : grid0.Coords) (v0 v2 : Vec F S1024x768 .f32) (v4 : Vec F S1x1024 .f32) (X : Fin 8 → FVec F S1x1024x128 .f32)
    (Y : Fin 8 → IVec S1x1024x128 32) : Regs F S1024x128 :=
  mergeEnd (mergeHalf X Y (restSorted (halfSorted i v0 v2 v4))) (k0_pay80 ((restSorted (halfSorted i v0 v2 v4)) 4).1 (k0_pay61 (X 3))) (k0_pay92 ((restSorted (halfSorted i v0 v2 v4)) 0).1 (k0_pay65 (X 7)))
      (k0_pay81 ((restSorted (halfSorted i v0 v2 v4)) 4).1 ((restSorted (halfSorted i v0 v2 v4)) 4).2 (k0_pay61 (X 3)) (k0_pay69 (F := F) (Y 3))) (k0_pay93 ((restSorted (halfSorted i v0 v2 v4)) 0).1 ((restSorted (halfSorted i v0 v2 v4)) 0).2 (k0_pay65 (X 7)) (Y 7))
      (k0_pay109 ((restSorted (halfSorted i v0 v2 v4)) 0).1 ((restSorted (halfSorted i v0 v2 v4)) 4).1 (k0_pay61 (X 3)) (k0_pay65 (X 7)))

variable (c : Dev nD) (i : grid0.Coords)
  (arg2 : Memref sig .tc .vmem S1024x768 .f32) (harg2 : arg2.IsWhole)
  (arg3 : Memref sig .tc .vmem S1024x768 .f32) (harg3 : arg3.IsWhole)
  (arg4 : Memref sig .tc .vmem S1x1024 .f32) (harg4 : arg4.IsWhole)
  (arg5 : Memref sig .tc .vmem S32x768 .f32) (harg5 : arg5.IsWhole)
  (arg6 : Memref sig .tc .vmem S1x32 .f32) (harg6 : arg6.IsWhole)
  (arg7 : Memref sig .tc .vmem S1024x8 .i32) (harg7 : arg7.IsWhole)
  (arg8 : Memref sig .tc .vmem S1024x32 .f32) (harg8 : arg8.IsWhole)
  (arg9 : Memref sig .tc .vmem S8x1024x128 .f32) (harg9 : arg9.IsWhole)
  (arg10 : Memref sig .tc .vmem S8x1024x128 .i32) (harg10 : arg10.IsWhole)
  (x0 : Vec F S1024x768 .f32) (x1 : Vec F S1024x768 .f32) (x2 : Vec F S1x1024 .f32) (x3 : Vec F S32x768 .f32) (x4 : Vec F S1x32 .f32)

theorem pieces_A_0 (hc0 : cond0_0 i) (hc1 : ¬cond0_1 i) (hc2 : ¬cond0_2 i) :
    (kernelRun0_A c i arg2 harg2 arg3 harg3 arg4 harg4 arg5 harg5 arg6 harg6 arg7 harg7 arg8 harg8 arg9 harg9 arg10 harg10 hc0 hc1 hc2 x0 x1 x2 x3 x4).2.2.1
      = rows (e := .f32) fun k => (tile i x0 x1 x2 k).1 := by
  rw [tile_eq]
  refine Eq.trans (b := rows (e := .f32) fun k => (restSorted (halfSorted i (whole2 arg2 harg2 x0) (whole2 arg3 harg3 x1) (whole1 arg4 harg4 x2)) k).1) ?_ ?_
  · unfold kernelRun0_A rows
    dsimp only [restSorted, halfSorted, mergedRegs, mergeEnd, mergeHalf, Matrix.cons_val]
    rfl
  · rw [whole2_eq, whole2_eq, whole1_eq]

theorem pieces_A_1 (hc0 : cond0_0 i) (hc1 : ¬cond0_1 i) (hc2 : ¬cond0_2 i) :
    (kernelRun0_A c i arg2 harg2 arg3 harg3 arg4 harg4 arg5 harg5 arg6 harg6 arg7 harg7 arg8 harg8 arg9 harg9 arg10 harg10 hc0 hc1 hc2 x0 x1 x2 x3 x4).2.2.2.1
      = rows (e := .i32) fun k => (tile i x0 x1 x2 k).2 := by
  rw [tile_eq]
  refine Eq.trans (b := rows (e := .i32) fun k => (restSorted (halfSorted i (whole2 arg2 harg2 x0) (whole2 arg3 harg3 x1) (whole1 arg4 harg4 x2)) k).2) ?_ ?_
  · unfold kernelRun0_A rows
    dsimp only [restSorted, halfSorted, mergedRegs, mergeEnd, mergeHalf, Matrix.cons_val]
    rfl
  · rw [whole2_eq, whole2_eq, whole1_eq]

theorem pieces_B_0 (hc0 : ¬cond0_0 i) (hc1 : cond0_1 i) (hc2 : ¬cond0_2 i) (xs0 : Vec F S8x1024x128 .f32) (xs1 : Vec F S8x1024x128 .i32) :
    (kernelRun0_B c i arg2 harg2 arg3 harg3 arg4 harg4 arg5 harg5 arg6 harg6 arg7 harg7 arg8 harg8 arg9 harg9 arg10 harg10 hc0 hc1 hc2 x0 x1 x2 x3 x4 xs0 xs1).2.2.1
      = rows (e := .f32) fun k => (merge (slices arg9 harg9 xs0) (slices arg10 harg10 xs1) (tile i x0 x1 x2) k).1 := by
  rw [tile_eq, merge_eq]
  refine Eq.trans (b := rows (e := .f32) fun k => (mergedRegs i (whole2 arg2 harg2 x0) (whole2 arg3 harg3 x1) (whole1 arg4 harg4 x2) (slices arg9 harg9 xs0) (slices arg10 harg10 xs1) k).1) ?_ ?_
  · unfold kernelRun0_B rows
    dsimp only [restSorted, halfSorted, mergedRegs, mergeEnd, mergeHalf, Matrix.cons_val]
    rfl
  · rw [whole2_eq, whole2_eq, whole1_eq]
    rfl

set_option maxHeartbeats 4000000 in
theorem pieces_B_1 (hc0 : ¬cond0_0 i) (hc1 : cond0_1 i) (hc2 : ¬cond0_2 i) (xs0 : Vec F S8x1024x128 .f32) (xs1 : Vec F S8x1024x128 .i32) :
    (kernelRun0_B c i arg2 harg2 arg3 harg3 arg4 harg4 arg5 harg5 arg6 harg6 arg7 harg7 arg8 harg8 arg9 harg9 arg10 harg10 hc0 hc1 hc2 x0 x1 x2 x3 x4 xs0 xs1).2.2.2.1
      = rows (e := .i32) fun k => (merge (slices arg9 harg9 xs0) (slices arg10 harg10 xs1) (tile i x0 x1 x2) k).2 := by
  rw [tile_eq, merge_eq]
  refine Eq.trans (b := rows (e := .i32) fun k => (mergedRegs i (whole2 arg2 harg2 x0) (whole2 arg3 harg3 x1) (whole1 arg4 harg4 x2) (slices arg9 harg9 xs0) (slices arg10 harg10 xs1) k).2) ?_ ?_
  · unfold kernelRun0_B rows
    dsimp only [restSorted, halfSorted, mergedRegs, mergeEnd, mergeHalf, Matrix.cons_val]
    rfl
  · rw [whole2_eq, whole2_eq, whole1_eq]
    rfl

theorem pieces_C_0 (hc0 : ¬cond0_0 i) (hc1 : cond0_1 i) (hc2 : cond0_2 i) (xs0 : Vec F S8x1024x128 .f32) (xs1 : Vec F S8x1024x128 .i32) :
    (kernelRun0_C c i arg2 harg2 arg3 harg3 arg4 harg4 arg5 harg5 arg6 harg6 arg7 harg7 arg8 harg8 arg9 harg9 arg10 harg10 hc0 hc1 hc2 x0 x1 x2 x3 x4 xs0 xs1).2.2.1
      = rows (e := .f32) fun k => (merge (slices arg9 harg9 xs0) (slices arg10 harg10 xs1) (tile i x0 x1 x2) k).1 := by
  rw [tile_eq, merge_eq]
  refine Eq.trans (b := rows (e := .f32) fun k => (mergedRegs i (whole2 arg2 harg2 x0) (whole2 arg3 harg3 x1) (whole1 arg4 harg4 x2) (slices arg9 harg9 xs0) (slices arg10 harg10 xs1) k).1) ?_ ?_
  · unfold kernelRun0_C rows
    dsimp only [restSorted, halfSorted, mergedRegs, mergeEnd, mergeHalf, Matrix.cons_val]
    rfl
  · rw [whole2_eq, whole2_eq, whole1_eq]
    rfl

set_option maxHeartbeats 4000000 in
theorem pieces_C_1 (hc0 : ¬cond0_0 i) (hc1 : cond0_1 i) (hc2 : cond0_2 i) (xs0 : Vec F S8x1024x128 .f32) (xs1 : Vec F S8x1024x128 .i32) :
    (kernelRun0_C c i arg2 harg2 arg3 harg3 arg4 harg4 arg5 harg5 arg6 harg6 arg7 harg7 arg8 harg8 arg9 harg9 arg10 harg10 hc0 hc1 hc2 x0 x1 x2 x3 x4 xs0 xs1).2.2.2.1
      = rows (e := .i32) fun k => (merge (slices arg9 harg9 xs0) (slices arg10 harg10 xs1) (tile i x0 x1 x2) k).2 := by
  rw [tile_eq, merge_eq]
  refine Eq.trans (b := rows (e := .i32) fun k => (mergedRegs i (whole2 arg2 harg2 x0) (whole2 arg3 harg3 x1) (whole1 arg4 harg4 x2) (slices arg9 harg9 xs0) (slices arg10 harg10 xs1) k).2) ?_ ?_
  · unfold kernelRun0_C rows
    dsimp only [restSorted, halfSorted, mergedRegs, mergeEnd, mergeHalf, Matrix.cons_val]
    rfl
  · rw [whole2_eq, whole2_eq, whole1_eq]
    rfl

end Cert.Top8
-- ==== Proof.Finish.lean ====
/-
  A row block's last tile: the eight registers of 128 lanes are reduced to the row's top 8. In each of eight rounds the greatest
  head of the 128 lanes is taken, with the id beside it in the least lane that holds it, and that lane's registers move up by one
  (`pop`). The eight values go through the softmax and the amplitudes; the eight ids are the first result.
-/
module

public import proofs.«01_k».proof.Proof.Pieces

@[expose] public section

set_option maxRecDepth 16384

noncomputable section

namespace Cert.Top8

open Idealize.ShloMosaic Idealize.ShloMosaic.TcCoe Idealize.ShloMosaic.SortNet Cert.KernelIdeal Cert.KernelIdeal.Gen Cert.TopNet

variable {F : FTy → Type} [FloatOps F]

/-- Each entry's own lane number. -/
def lanes : IVec S1024x128 32 := iota .tc S1024x128 32 [1] iota_S1024x128_d1_w32

/-- Each row's greatest entry. -/
def headMax (v : FVec F S1024x128 .f32) : FVec F S1024x1 .f32 :=
  shapeCast S1024x1 (multiReduction .maximumf [1] S1024 v 0xFF800000#32 reduces_S1024x128_S1024 (.inl rfl) rfl) shapeCasts_S1024_S1024x1

/-- Where a row holds its greatest entry. -/
def atMax (v : FVec F S1024x128 .f32) : IVec S1024x128 1 :=
  cmpf .oeq v (broadcastTo S1024x128 (headMax v) broadcasts_S1024x1_S1024x128)

/-- The least lane where it does. -/
def chosen (v : FVec F S1024x128 .f32) : IVec S1024x128 1 :=
  cmpi .eq lanes (broadcastTo S1024x128 (shapeCast S1024x1 (multiReductionI .minsi [1] S1024
    (select (atMax v) lanes (broadcast S1024x128 128#32)) 2147483647#32 reduces_S1024x128_S1024 rfl) shapeCasts_S1024_S1024x1)
    broadcasts_S1024x1_S1024x128)

/-- The id there. -/
def chosenId (x : FVec F S1024x128 .f32 × IVec S1024x128 32) : IVec S1024x1 32 :=
  shapeCast S1024x1 (multiReductionI .add [1] S1024 (select (chosen x.1) x.2 (broadcast S1024x128 0#32)) 0#32
    reduces_S1024x128_S1024 rfl) shapeCasts_S1024_S1024x1

/-- One round: the registers of the chosen lane move up by one; the last register is never looked at after it. -/
def pop (x : Regs F S1024x128) : Regs F S1024x128 :=
  ![(select (chosen (x 0).1) (x 1).1 (x 0).1, select (chosen (x 0).1) (x 1).2 (x 0).2),
    (select (chosen (x 0).1) (x 2).1 (x 1).1, select (chosen (x 0).1) (x 2).2 (x 1).2),
    (select (chosen (x 0).1) (x 3).1 (x 2).1, select (chosen (x 0).1) (x 3).2 (x 2).2),
    (select (chosen (x 0).1) (x 4).1 (x 3).1, select (chosen (x 0).1) (x 4).2 (x 3).2),
    (select (chosen (x 0).1) (x 5).1 (x 4).1, select (chosen (x 0).1) (x 5).2 (x 4).2),
    (select (chosen (x 0).1) (x 6).1 (x 5).1, select (chosen (x 0).1) (x 6).2 (x 5).2),
    (select (chosen (x 0).1) (x 7).1 (x 6).1, select (chosen (x 0).1) (x 7).2 (x 6).2), x 7]

/-- The eight values taken, as columns. -/
def topValues (x : Regs F S1024x128) : FVec F S1024x8 .f32 :=
  concatenate S1024x8 1 [⟨S1024x1, headMax (x 0).1⟩, ⟨S1024x1, headMax (pop x 0).1⟩, ⟨S1024x1, headMax (pop (pop x) 0).1⟩,
    ⟨S1024x1, headMax (pop (pop (pop x)) 0).1⟩, ⟨S1024x1, headMax (pop (pop (pop (pop x))) 0).1⟩,
    ⟨S1024x1, headMax (pop (pop (pop (pop (pop x)))) 0).1⟩, ⟨S1024x1, headMax (pop (pop (pop (pop (pop (pop x))))) 0).1⟩,
    ⟨S1024x1, headMax (pop (pop (pop (pop (pop (pop (pop x)))))) 0).1⟩]
    concatenates_S1024x1_S1024x1_S1024x1_S1024x1_S1024x1_S1024x1_S1024x1_S1024x1_S1024x8_d1

/-- The eight ids taken, as columns. -/
def topIds (x : Regs F S1024x128) : IVec S1024x8 32 :=
  concatenate S1024x8 1 [⟨S1024x1, chosenId (x 0)⟩, ⟨S1024x1, chosenId (pop x 0)⟩, ⟨S1024x1, chosenId (pop (pop x) 0)⟩,
    ⟨S1024x1, chosenId (pop (pop (pop x)) 0)⟩, ⟨S1024x1, chosenId (pop (pop (pop (pop x))) 0)⟩,
    ⟨S1024x1, chosenId (pop (pop (pop (pop (pop x)))) 0)⟩, ⟨S1024x1, chosenId (pop (pop (pop (pop (pop (pop x))))) 0)⟩,
    ⟨S1024x1, chosenId (pop (pop (pop (pop (pop (pop (pop x)))))) 0)⟩]
    concatenates_S1024x1_S1024x1_S1024x1_S1024x1_S1024x1_S1024x1_S1024x1_S1024x1_S1024x8_d1

/-- The exponentials of the top values less the first of them. -/
def expTop (t : FVec F S1024x8 .f32) : FVec F S1024x8 .f32 :=
  exp (subf t (broadcastTo S1024x8 (extractStridedSlice S1024x1 ![0, 0] t slices_S1024x8_o0_0_S1024x1) broadcasts_S1024x1_S1024x8))

/-- Their sum over the row. -/
def sumTop (t : FVec F S1024x8 .f32) : FVec F S1024 .f32 :=
  multiReduction .add [1] S1024 (expTop t) 0x00000000#32 reduces_S1024x8_S1024 (.inl rfl) rfl

/-- The block of normalised amplitudes, from the block of hidden rows, the amplitude weights and biases, and the top values. -/
def ampOut (v0 : Vec F S1024x768 .f32) (v3 : Vec F S32x768 .f32) (v4 : Vec F S1x32 .f32) (t : FVec F S1024x8 .f32) : FVec F S1024x32 .f32 :=
  k0_pay49 (k0_pay254 (k0_pay258 v0) (expTop t) (sumTop t) v3 v4) (k0_pay255 (k0_pay258 v0) (expTop t) (sumTop t) v3 v4)
    (k0_pay257 (iota .tc S32x32 32 [0] iota_S32x32_d0_w32) (iota .tc S32x32 32 [1] iota_S32x32_d1_w32) 4#32 k0_pay256 0#32)

/-- The registers after the first round, as the body computes them. -/
def popOne (X : Fin 8 → FVec F S1x1024x128 .f32) (Y : Fin 8 → IVec S1x1024x128 32) : Regs F S1024x128 :=
  ![(k0_pay181 lanes (k0_pay163 (X 0)) (k0_pay164 (X 1)), k0_pay182 lanes (k0_pay163 (X 0)) (k0_pay171 (F := F) (Y 0)) (k0_pay172 (F := F) (Y 1))),
    (k0_pay183 lanes (k0_pay163 (X 0)) (k0_pay164 (X 1)) (k0_pay165 (X 2)), k0_pay184 lanes (k0_pay163 (X 0)) (k0_pay172 (F := F) (Y 1)) (k0_pay173 (F := F) (Y 2))),
    (k0_pay185 lanes (k0_pay163 (X 0)) (k0_pay165 (X 2)) (k0_pay166 (X 3)), k0_pay186 lanes (k0_pay163 (X 0)) (k0_pay173 (F := F) (Y 2)) (k0_pay174 (F := F) (Y 3))),
    (k0_pay187 lanes (k0_pay163 (X 0)) (k0_pay166 (X 3)) (k0_pay167 (X 4)), k0_pay188 lanes (k0_pay163 (X 0)) (k0_pay174 (F := F) (Y 3)) (Y 4)),
    (k0_pay189 lanes (k0_pay163 (X 0)) (k0_pay167 (X 4)) (k0_pay168 (X 5)), k0_pay190 lanes (k0_pay163 (X 0)) (Y 4) (Y 5)),
    (k0_pay191 lanes (k0_pay163 (X 0)) (k0_pay168 (X 5)) (k0_pay169 (X 6)), k0_pay192 lanes (k0_pay163 (X 0)) (Y 5) (Y 6)),
    (k0_pay193 lanes (k0_pay163 (X 0)) (k0_pay169 (X 6)) (k0_pay170 (X 7)), k0_pay194 lanes (k0_pay163 (X 0)) (Y 6) (Y 7)), loaded X Y 7]

/-- The registers two rounds after `x`, as the body computes the second and third, `q` marking the entries equal to their row's greatest head. -/
def popTwo (x : Regs F S1024x128) (q : IVec S1024x128 1) : Regs F S1024x128 :=
  ![(k0_pay213 lanes (x 0).1 (x 1).1 (x 2).1 q k0_pay197, k0_pay214 lanes (x 0).1 (x 0).2 (x 1).1 (x 1).2 (x 2).2 q k0_pay197),
    (k0_pay215 lanes (x 0).1 (x 1).1 (x 2).1 (x 3).1 q k0_pay197, k0_pay216 lanes (x 0).1 (x 1).1 (x 1).2 (x 2).2 (x 3).2 q k0_pay197),
    (k0_pay217 lanes (x 0).1 (x 1).1 (x 2).1 (x 3).1 (x 4).1 q k0_pay197, k0_pay218 lanes (x 0).1 (x 1).1 (x 2).2 (x 3).2 (x 4).2 q k0_pay197),
    (k0_pay219 lanes (x 0).1 (x 1).1 (x 3).1 (x 4).1 (x 5).1 q k0_pay197, k0_pay220 lanes (x 0).1 (x 1).1 (x 3).2 (x 4).2 (x 5).2 q k0_pay197),
    (k0_pay221 lanes (x 0).1 (x 1).1 (x 4).1 (x 5).1 (x 6).1 q k0_pay197, k0_pay222 lanes (x 0).1 (x 1).1 (x 4).2 (x 5).2 (x 6).2 q k0_pay197),
    pop (pop x) 5, pop (pop x) 6, pop (pop x) 7]

/-- The registers two rounds after `x`, as the body computes the fourth and fifth. -/
def popFour (x : Regs F S1024x128) (q : IVec S1024x128 1) : Regs F S1024x128 :=
  ![(k0_pay237 lanes (x 0).1 (x 1).1 (x 2).1 q k0_pay225, k0_pay238 lanes (x 0).1 (x 0).2 (x 1).1 (x 1).2 (x 2).2 q k0_pay225),
    (k0_pay239 lanes (x 0).1 (x 1).1 (x 2).1 (x 3).1 q k0_pay225, k0_pay240 lanes (x 0).1 (x 1).1 (x 1).2 (x 2).2 (x 3).2 q k0_pay225),
    (k0_pay241 lanes (x 0).1 (x 1).1 (x 2).1 (x 3).1 (x 4).1 q k0_pay225, k0_pay242 lanes (x 0).1 (x 1).1 (x 2).2 (x 3).2 (x 4).2 q k0_pay225),
    pop (pop x) 3, pop (pop x) 4, pop (pop x) 5, pop (pop x) 6, pop (pop x) 7]

theorem popOne_eq (X : Fin 8 → FVec F S1x1024x128 .f32) (Y : Fin 8 → IVec S1x1024x128 32) : pop (loaded X Y) = popOne X Y := by
  funext k; fin_cases k <;> rfl

theorem popTwo_eq (x : Regs F S1024x128) : pop (pop x) = popTwo x (atMax (x 0).1) := by
  funext k
  fin_cases k <;> dsimp only [popTwo, pop, Matrix.cons_val, chosen, atMax, headMax, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222] <;> rfl

theorem popFour_eq (x : Regs F S1024x128) : pop (pop x) = popFour x (atMax (x 0).1) := by
  funext k
  fin_cases k <;> dsimp only [popFour, pop, Matrix.cons_val, chosen, atMax, headMax, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242] <;> rfl

/-- The ids the body stores, from registers `x` five rounds on and the five ids taken before. -/
theorem lastIds (o0 o1 o2 o3 o4 : IVec S1024x1 32) (x : Regs F S1024x128) :
    k0_pay251 lanes o0 o1 o2 o3 o4 (x 0).1 (x 0).2 (x 1).1 (x 1).2 (x 2).1 (x 2).2 (chosen (x 0).1) k0_pay245
      = concatenate S1024x8 1 [⟨S1024x1, o0⟩, ⟨S1024x1, o1⟩, ⟨S1024x1, o2⟩, ⟨S1024x1, o3⟩, ⟨S1024x1, o4⟩,
          ⟨S1024x1, chosenId (x 0)⟩, ⟨S1024x1, chosenId (pop x 0)⟩, ⟨S1024x1, chosenId (pop (pop x) 0)⟩]
          concatenates_S1024x1_S1024x1_S1024x1_S1024x1_S1024x1_S1024x1_S1024x1_S1024x1_S1024x8_d1 := by
  dsimp only [chosenId, pop, Matrix.cons_val, chosen, atMax, headMax, k0_pay245, k0_pay246, k0_pay247, k0_pay248, k0_pay249, k0_pay250, k0_pay251]

/-- The exponentials the body computes, from registers `x` five rounds on and the five values taken before. -/
theorem lastExp (o0 o1 o2 o3 o4 : FVec F S1024x1 .f32) (x : Regs F S1024x128) :
    k0_pay252 lanes o0 o1 o2 o3 o4 (x 0).1 (x 1).1 (x 2).1 (headMax (x 0).1) (chosen (x 0).1)
      = expTop (concatenate S1024x8 1 [⟨S1024x1, o0⟩, ⟨S1024x1, o1⟩, ⟨S1024x1, o2⟩, ⟨S1024x1, o3⟩, ⟨S1024x1, o4⟩,
          ⟨S1024x1, headMax (x 0).1⟩, ⟨S1024x1, headMax (pop x 0).1⟩, ⟨S1024x1, headMax (pop (pop x) 0).1⟩]
          concatenates_S1024x1_S1024x1_S1024x1_S1024x1_S1024x1_S1024x1_S1024x1_S1024x1_S1024x8_d1) := by
  dsimp only [expTop, pop, Matrix.cons_val, chosen, atMax, headMax, k0_pay243, k0_pay244, k0_pay245, k0_pay246, k0_pay247, k0_pay248, k0_pay249, k0_pay250, k0_pay251, k0_pay252]

/-! The masks, greatest heads and ids of each round, as the body computes them from the registers one, or three, rounds on. -/

theorem id_0 (X : Fin 8 → FVec F S1x1024x128 .f32) (Y : Fin 8 → IVec S1x1024x128 32) : chosenId (loaded X Y 0) = k0_pay180 lanes (k0_pay163 (X 0)) (k0_pay171 (F := F) (Y 0)) := rfl

theorem max_0 (X : Fin 8 → FVec F S1x1024x128 .f32) (Y : Fin 8 → IVec S1x1024x128 32) : headMax (loaded X Y 0).1 = k0_pay178 (k0_pay163 (X 0)) := rfl

theorem max_1 (X : Fin 8 → FVec F S1x1024x128 .f32) (Y : Fin 8 → IVec S1x1024x128 32) : headMax (pop (loaded X Y) 0).1 = k0_pay195 lanes (k0_pay163 (X 0)) (k0_pay164 (X 1)) := by
  dsimp only [loaded, pop, Matrix.cons_val, chosen, atMax, headMax, k0_pay163, k0_pay164, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196]

theorem atMax_1 (X : Fin 8 → FVec F S1x1024x128 .f32) (Y : Fin 8 → IVec S1x1024x128 32) : atMax (pop (loaded X Y) 0).1 = k0_pay196 lanes (k0_pay163 (X 0)) (k0_pay164 (X 1)) := by
  dsimp only [loaded, pop, Matrix.cons_val, chosen, atMax, headMax, k0_pay163, k0_pay164, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196]

theorem id_1 (x : Regs F S1024x128) : chosenId (x 0) = k0_pay199 lanes (x 0).2 (atMax (x 0).1) k0_pay197 := by
  dsimp only [chosenId, pop, Matrix.cons_val, chosen, atMax, headMax, k0_pay197, k0_pay198, k0_pay199, k0_pay200, k0_pay201, k0_pay202, k0_pay203, k0_pay204, k0_pay205, k0_pay206, k0_pay207, k0_pay208, k0_pay209, k0_pay210, k0_pay211, k0_pay212]

theorem max_2 (x : Regs F S1024x128) : headMax (pop x 0).1 = k0_pay210 lanes (x 0).1 (x 1).1 (atMax (x 0).1) k0_pay197 := by
  dsimp only [chosenId, pop, Matrix.cons_val, chosen, atMax, headMax, k0_pay197, k0_pay198, k0_pay199, k0_pay200, k0_pay201, k0_pay202, k0_pay203, k0_pay204, k0_pay205, k0_pay206, k0_pay207, k0_pay208, k0_pay209, k0_pay210, k0_pay211, k0_pay212]

theorem id_2 (x : Regs F S1024x128) : chosenId (pop x 0) = k0_pay212 lanes (x 0).1 (x 0).2 (x 1).1 (x 1).2 (atMax (x 0).1) k0_pay197 := by
  dsimp only [chosenId, pop, Matrix.cons_val, chosen, atMax, headMax, k0_pay197, k0_pay198, k0_pay199, k0_pay200, k0_pay201, k0_pay202, k0_pay203, k0_pay204, k0_pay205, k0_pay206, k0_pay207, k0_pay208, k0_pay209, k0_pay210, k0_pay211, k0_pay212]

theorem max_3 (x : Regs F S1024x128) : headMax (pop (pop x) 0).1 = k0_pay223 lanes (x 0).1 (x 1).1 (x 2).1 (atMax (x 0).1) k0_pay197 := by
  dsimp only [chosenId, pop, Matrix.cons_val, chosen, atMax, headMax, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224]

theorem atMax_3 (x : Regs F S1024x128) : atMax (pop (pop x) 0).1 = k0_pay224 lanes (x 0).1 (x 1).1 (x 2).1 (atMax (x 0).1) k0_pay197 := by
  dsimp only [chosenId, pop, Matrix.cons_val, chosen, atMax, headMax, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224]

theorem id_3 (x : Regs F S1024x128) : chosenId (x 0) = k0_pay227 lanes (x 0).2 (atMax (x 0).1) k0_pay225 := by
  dsimp only [chosenId, pop, Matrix.cons_val, chosen, atMax, headMax, k0_pay225, k0_pay226, k0_pay227, k0_pay228, k0_pay229, k0_pay230, k0_pay231, k0_pay232, k0_pay233, k0_pay234, k0_pay235, k0_pay236, k0_pay237]

theorem max_4 (x : Regs F S1024x128) : headMax (pop x 0).1 = k0_pay234 lanes (x 0).1 (x 1).1 (atMax (x 0).1) k0_pay225 := by
  dsimp only [chosenId, pop, Matrix.cons_val, chosen, atMax, headMax, k0_pay225, k0_pay226, k0_pay227, k0_pay228, k0_pay229, k0_pay230, k0_pay231, k0_pay232, k0_pay233, k0_pay234, k0_pay235, k0_pay236, k0_pay237]

theorem id_4 (x : Regs F S1024x128) : chosenId (pop x 0) = k0_pay236 lanes (x 0).1 (x 0).2 (x 1).1 (x 1).2 (atMax (x 0).1) k0_pay225 := by
  dsimp only [chosenId, pop, Matrix.cons_val, chosen, atMax, headMax, k0_pay225, k0_pay226, k0_pay227, k0_pay228, k0_pay229, k0_pay230, k0_pay231, k0_pay232, k0_pay233, k0_pay234, k0_pay235, k0_pay236, k0_pay237]

theorem max_5 (x : Regs F S1024x128) : headMax (pop (pop x) 0).1 = k0_pay243 lanes (x 0).1 (x 1).1 (x 2).1 (atMax (x 0).1) k0_pay225 := by
  dsimp only [chosenId, pop, Matrix.cons_val, chosen, atMax, headMax, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244]

theorem chosen_5 (x : Regs F S1024x128) : chosen (pop (pop x) 0).1 = k0_pay244 lanes (x 0).1 (x 1).1 (x 2).1 (atMax (x 0).1) k0_pay225 := by
  dsimp only [chosenId, pop, Matrix.cons_val, chosen, atMax, headMax, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244]

/-- The ids as the body computes them from the rows it loaded. -/
def bodyIds (X : Fin 8 → FVec F S1x1024x128 .f32) (Y : Fin 8 → IVec S1x1024x128 32) : IVec S1024x8 32 :=
  let x := popOne X Y
  let q := k0_pay196 lanes (k0_pay163 (X 0)) (k0_pay164 (X 1))
  let y := popTwo x q
  let q' := k0_pay224 lanes (x 0).1 (x 1).1 (x 2).1 q k0_pay197
  let z := popFour y q'
  k0_pay251 lanes (k0_pay180 lanes (k0_pay163 (X 0)) (k0_pay171 (F := F) (Y 0))) (k0_pay199 lanes (x 0).2 q k0_pay197)
    (k0_pay212 lanes (x 0).1 (x 0).2 (x 1).1 (x 1).2 q k0_pay197) (k0_pay227 lanes (y 0).2 q' k0_pay225)
    (k0_pay236 lanes (y 0).1 (y 0).2 (y 1).1 (y 1).2 q' k0_pay225) (z 0).1 (z 0).2 (z 1).1 (z 1).2 (z 2).1 (z 2).2
    (k0_pay244 lanes (y 0).1 (y 1).1 (y 2).1 q' k0_pay225) k0_pay245

/-- The exponentials as the body computes them from the rows it loaded. -/
def bodyExp (X : Fin 8 → FVec F S1x1024x128 .f32) (Y : Fin 8 → IVec S1x1024x128 32) : FVec F S1024x8 .f32 :=
  let x := popOne X Y
  let q := k0_pay196 lanes (k0_pay163 (X 0)) (k0_pay164 (X 1))
  let y := popTwo x q
  let q' := k0_pay224 lanes (x 0).1 (x 1).1 (x 2).1 q k0_pay197
  let z := popFour y q'
  k0_pay252 lanes (k0_pay178 (k0_pay163 (X 0))) (k0_pay195 lanes (k0_pay163 (X 0)) (k0_pay164 (X 1))) (k0_pay210 lanes (x 0).1 (x 1).1 q k0_pay197)
    (k0_pay223 lanes (x 0).1 (x 1).1 (x 2).1 q k0_pay197) (k0_pay234 lanes (y 0).1 (y 1).1 q' k0_pay225) (z 0).1 (z 1).1 (z 2).1
    (k0_pay243 lanes (y 0).1 (y 1).1 (y 2).1 q' k0_pay225) (k0_pay244 lanes (y 0).1 (y 1).1 (y 2).1 q' k0_pay225)

/-- Three rounds on, the registers are the body's. -/
theorem popThree_eq (X : Fin 8 → FVec F S1x1024x128 .f32) (Y : Fin 8 → IVec S1x1024x128 32) : pop (pop (pop (loaded X Y))) = popTwo (popOne X Y) (k0_pay196 lanes (k0_pay163 (X 0)) (k0_pay164 (X 1))) := by
  rw [popTwo_eq, atMax_1, popOne_eq]

/-- Five rounds on, the registers are the body's. -/
theorem popFive_eq (X : Fin 8 → FVec F S1x1024x128 .f32) (Y : Fin 8 → IVec S1x1024x128 32) : pop (pop (pop (pop (pop (loaded X Y)))))
    = popFour (popTwo (popOne X Y) (k0_pay196 lanes (k0_pay163 (X 0)) (k0_pay164 (X 1))))
        (k0_pay224 lanes ((popOne X Y) 0).1 ((popOne X Y) 1).1 ((popOne X Y) 2).1 (k0_pay196 lanes (k0_pay163 (X 0)) (k0_pay164 (X 1))) k0_pay197) := by
  rw [popFour_eq (pop (pop (pop (loaded X Y)))), atMax_3 (pop (loaded X Y)), atMax_1, popThree_eq, popOne_eq]

theorem topIds_eq (X : Fin 8 → FVec F S1x1024x128 .f32) (Y : Fin 8 → IVec S1x1024x128 32) : topIds (loaded X Y) = bodyIds X Y := by
  unfold topIds
  rw [← lastIds, id_0, id_1 (pop (loaded X Y)), id_2 (pop (loaded X Y)), id_3 (pop (pop (pop (loaded X Y)))),
    id_4 (pop (pop (pop (loaded X Y)))), chosen_5 (pop (pop (pop (loaded X Y)))), atMax_3 (pop (loaded X Y)), atMax_1, popFive_eq,
    popThree_eq, popOne_eq]
  rfl

theorem expTop_eq (X : Fin 8 → FVec F S1x1024x128 .f32) (Y : Fin 8 → IVec S1x1024x128 32) : expTop (topValues (loaded X Y)) = bodyExp X Y := by
  unfold topValues
  rw [← lastExp, max_0, max_1, max_2 (pop (loaded X Y)), max_3 (pop (loaded X Y)), max_4 (pop (pop (pop (loaded X Y)))),
    max_5 (pop (pop (pop (loaded X Y)))), chosen_5 (pop (pop (pop (loaded X Y)))), atMax_3 (pop (loaded X Y)), atMax_1, popFive_eq,
    popThree_eq, popOne_eq]
  rfl

/-- Stored rows, each read back under its unit axis. -/
def readBack {e : EltTy} (m : Memref sig .tc .vmem S8x1024x128 e) (L : List (View.Piece (Elt F) S8x1024x128 e)) :
    Fin 8 → Vec F S1x1024x128 e :=
  ![m.view.readCov L (Rect.unit (s := S8x1024x128) ![0, 0, 0] S1x1024x128.size inb_S8x1024x128_S1x1024x128_0_0_0).toLoadRect,
    m.view.readCov L (Rect.unit (s := S8x1024x128) ![1, 0, 0] S1x1024x128.size inb_S8x1024x128_S1x1024x128_1_0_0).toLoadRect,
    m.view.readCov L (Rect.unit (s := S8x1024x128) ![2, 0, 0] S1x1024x128.size inb_S8x1024x128_S1x1024x128_2_0_0).toLoadRect,
    m.view.readCov L (Rect.unit (s := S8x1024x128) ![3, 0, 0] S1x1024x128.size inb_S8x1024x128_S1x1024x128_3_0_0).toLoadRect,
    m.view.readCov L (Rect.unit (s := S8x1024x128) ![4, 0, 0] S1x1024x128.size inb_S8x1024x128_S1x1024x128_4_0_0).toLoadRect,
    m.view.readCov L (Rect.unit (s := S8x1024x128) ![5, 0, 0] S1x1024x128.size inb_S8x1024x128_S1x1024x128_5_0_0).toLoadRect,
    m.view.readCov L (Rect.unit (s := S8x1024x128) ![6, 0, 0] S1x1024x128.size inb_S8x1024x128_S1x1024x128_6_0_0).toLoadRect,
    m.view.readCov L (Rect.unit (s := S8x1024x128) ![7, 0, 0] S1x1024x128.size inb_S8x1024x128_S1x1024x128_7_0_0).toLoadRect]

theorem readBack_row {e : EltTy} (m : Memref sig .tc .vmem S8x1024x128 e) (v : Fin 8 → S1024x128.Idx → Elt F e) (k : Fin 8)
    (inb : ∀ a, (![k.val, 0, 0] : Fin 3 → ℕ) a + S1x1024x128.size a ≤ S8x1024x128.size a) :
    m.view.readCov (rows (F := F) v) (Rect.unit (s := S8x1024x128) ![k.val, 0, 0] S1x1024x128.size inb).toLoadRect
      = shapeCast S1x1024x128 (v k) shapeCasts_S1024x128_S1x1024x128 := by
  rw [View.readCov_eq_canon_ld _ _ _ (fun y => View.cover_of_tiledL (rows (F := F) v) S1x1024x128.size (by sl_kernel_rfl) y), canon_rows]
  exact ld_stack v k ![k.val, 0, 0] inb shapeCasts_S1024x128_S1x1024x128 rfl (fun a => by fin_cases a <;> rfl)

theorem readBack_rows {e : EltTy} (m : Memref sig .tc .vmem S8x1024x128 e) (v : Fin 8 → S1024x128.Idx → Elt F e) (k : Fin 8) :
    readBack m (rows (F := F) v) k = shapeCast S1x1024x128 (v k) shapeCasts_S1024x128_S1x1024x128 := by
  fin_cases k
  · exact readBack_row m v 0 _
  · exact readBack_row m v 1 _
  · exact readBack_row m v 2 _
  · exact readBack_row m v 3 _
  · exact readBack_row m v 4 _
  · exact readBack_row m v 5 _
  · exact readBack_row m v 6 _
  · exact readBack_row m v 7 _

/-- Registers stored as rows and read back are the registers. -/
theorem loaded_rows (m : Memref sig .tc .vmem S8x1024x128 .f32) (m' : Memref sig .tc .vmem S8x1024x128 .i32) (v : Regs F S1024x128) :
    loaded (readBack (F := F) (e := .f32) m (rows fun k => (v k).1)) (readBack (F := F) (e := .i32) m' (rows fun k => (v k).2)) = v := by
  funext k
  have h1 := readBack_rows (F := F) m (fun k => (v k).1) k
  have h2 := readBack_rows (F := F) m' (fun k => (v k).2) k
  refine Prod.ext ?_ ?_
  · exact (congrArg (fun z => shapeCast S1024x128 z shapeCasts_S1x1024x128_S1024x128) h1).trans (unit_axis _)
  · exact (congrArg (fun z => shapeCast S1024x128 z shapeCasts_S1x1024x128_S1024x128) h2).trans (unit_axis _)

/-- The amplitude weights loaded whole are the weights. -/
def whole3 (m : Memref sig .tc .vmem S32x768 .f32) (h : m.IsWhole) (x : Vec F S32x768 .f32) : Vec F S32x768 .f32 :=
  View.readAt (Elt F) m.view (Rect.unit ![0, 0] S32x768.size inb_S32x768_S32x768_0_0).toLoadRect (h.unread x)

theorem whole3_eq (m : Memref sig .tc .vmem S32x768 .f32) (h : m.IsWhole) (x : Vec F S32x768 .f32) : whole3 m h x = x :=
  (funext fun y => h.readAt_unread x _ y).trans (View.ld_unit_zero (by funext a; fin_cases a <;> rfl) inb_S32x768_S32x768_0_0 x)

/-- The amplitude biases loaded whole are the biases. -/
def whole4 (m : Memref sig .tc .vmem S1x32 .f32) (h : m.IsWhole) (x : Vec F S1x32 .f32) : Vec F S1x32 .f32 :=
  View.readAt (Elt F) m.view (Rect.unit ![0, 0] S1x32.size inb_S1x32_S1x32_0_0).toLoadRect (h.unread x)

theorem whole4_eq (m : Memref sig .tc .vmem S1x32 .f32) (h : m.IsWhole) (x : Vec F S1x32 .f32) : whole4 m h x = x :=
  (funext fun y => h.readAt_unread x _ y).trans (View.ld_unit_zero (by funext a; fin_cases a <;> rfl) inb_S1x32_S1x32_0_0 x)

variable (c : Dev nD) (i : grid0.Coords)
  (arg2 : Memref sig .tc .vmem S1024x768 .f32) (harg2 : arg2.IsWhole)
  (arg3 : Memref sig .tc .vmem S1024x768 .f32) (harg3 : arg3.IsWhole)
  (arg4 : Memref sig .tc .vmem S1x1024 .f32) (harg4 : arg4.IsWhole)
  (arg5 : Memref sig .tc .vmem S32x768 .f32) (harg5 : arg5.IsWhole)
  (arg6 : Memref sig .tc .vmem S1x32 .f32) (harg6 : arg6.IsWhole)
  (arg7 : Memref sig .tc .vmem S1024x8 .i32) (harg7 : arg7.IsWhole)
  (arg8 : Memref sig .tc .vmem S1024x32 .f32) (harg8 : arg8.IsWhole)
  (arg9 : Memref sig .tc .vmem S8x1024x128 .f32) (harg9 : arg9.IsWhole)
  (arg10 : Memref sig .tc .vmem S8x1024x128 .i32) (harg10 : arg10.IsWhole)
  (x0 : Vec F S1024x768 .f32) (x1 : Vec F S1024x768 .f32) (x2 : Vec F S1x1024 .f32) (x3 : Vec F S32x768 .f32) (x4 : Vec F S1x32 .f32)
  (hc0 : ¬cond0_0 i) (hc1 : cond0_1 i) (hc2 : cond0_2 i) (xs0 : Vec F S8x1024x128 .f32) (xs1 : Vec F S8x1024x128 .i32)

/-- The rows of values the last tile stores. -/
def storedV : List (View.Piece (Elt F) S8x1024x128 .f32) := (kernelRun0_C c i arg2 harg2 arg3 harg3 arg4 harg4 arg5 harg5 arg6 harg6 arg7 harg7 arg8 harg8 arg9 harg9 arg10 harg10 hc0 hc1 hc2 x0 x1 x2 x3 x4 xs0 xs1).2.2.1

/-- The rows of ids it stores. -/
def storedI : List (View.Piece (Elt F) S8x1024x128 .i32) := (kernelRun0_C c i arg2 harg2 arg3 harg3 arg4 harg4 arg5 harg5 arg6 harg6 arg7 harg7 arg8 harg8 arg9 harg9 arg10 harg10 hc0 hc1 hc2 x0 x1 x2 x3 x4 xs0 xs1).2.2.2.1

/-- The ids the last tile stores: the rounds on the registers it read back. -/
theorem pieces_C_5 : (kernelRun0_C c i arg2 harg2 arg3 harg3 arg4 harg4 arg5 harg5 arg6 harg6 arg7 harg7 arg8 harg8 arg9 harg9 arg10 harg10 hc0 hc1 hc2 x0 x1 x2 x3 x4 xs0 xs1).1
    = [⟨Rect.unit ![0, 0] S1024x8.size inb_S1024x8_S1024x8_0_0,
        topIds (loaded (readBack arg9 (storedV c i arg2 harg2 arg3 harg3 arg4 harg4 arg5 harg5 arg6 harg6 arg7 harg7 arg8 harg8 arg9 harg9 arg10 harg10 x0 x1 x2 x3 x4 hc0 hc1 hc2 xs0 xs1)) (readBack arg10 (storedI c i arg2 harg2 arg3 harg3 arg4 harg4 arg5 harg5 arg6 harg6 arg7 harg7 arg8 harg8 arg9 harg9 arg10 harg10 x0 x1 x2 x3 x4 hc0 hc1 hc2 xs0 xs1)))⟩] := by
  rw [topIds_eq]
  unfold kernelRun0_C
  dsimp only [storedV, storedI, kernelRun0_C, readBack, bodyIds, popOne, popTwo, popFour, Matrix.cons_val]
  rfl

/-- The amplitudes it stores. -/
theorem pieces_C_6 : (kernelRun0_C c i arg2 harg2 arg3 harg3 arg4 harg4 arg5 harg5 arg6 harg6 arg7 harg7 arg8 harg8 arg9 harg9 arg10 harg10 hc0 hc1 hc2 x0 x1 x2 x3 x4 xs0 xs1).2.1
    = [⟨Rect.unit ![0, 0] S1024x32.size inb_S1024x32_S1024x32_0_0,
        ampOut (whole2 arg2 harg2 x0) (whole3 arg5 harg5 x3) (whole4 arg6 harg6 x4)
          (topValues (loaded (readBack arg9 (storedV c i arg2 harg2 arg3 harg3 arg4 harg4 arg5 harg5 arg6 harg6 arg7 harg7 arg8 harg8 arg9 harg9 arg10 harg10 x0 x1 x2 x3 x4 hc0 hc1 hc2 xs0 xs1)) (readBack arg10 (storedI c i arg2 harg2 arg3 harg3 arg4 harg4 arg5 harg5 arg6 harg6 arg7 harg7 arg8 harg8 arg9 harg9 arg10 harg10 x0 x1 x2 x3 x4 hc0 hc1 hc2 xs0 xs1))))⟩] := by
  unfold ampOut sumTop
  rw [expTop_eq]
  unfold kernelRun0_C
  dsimp only [storedV, storedI, kernelRun0_C, readBack, bodyExp, popOne, popTwo, popFour, Matrix.cons_val]
  rfl

end Cert.Top8
-- ==== Proof.Carry.lean ====
/-
  What the two carried buffers hold after each grid point, and what a row block's last point writes: the eight registers of 128
  lanes as one recursion over the points (`regs`), begun afresh by a row block's first tile and merged with each later one.
-/
module

public import proofs.«01_k».proof.Proof.Finish
public import proofs.«01_k».proof.Proof.Gen.KernelIdeal.Value

@[expose] public section

set_option maxRecDepth 16384

noncomputable section

namespace Cert.Top8

open Idealize.ShloMosaic Idealize.ShloMosaic.TcCoe Idealize.ShloMosaic.SortNet Cert.KernelIdeal Cert.KernelIdeal.Gen Cert.TopNet

variable {F : FTy → Type} [FloatOps F]

/-- The greater eight of two sorted octets of registers, sorted. -/
def merged (v x : Regs F S1024x128) : Regs F S1024x128 := run (mergePairsNet 3) (keepMax v x)

theorem merge_loaded (m : Memref sig .tc .vmem S8x1024x128 .f32) (h : m.IsWhole) (m' : Memref sig .tc .vmem S8x1024x128 .i32)
    (h' : m'.IsWhole) (v x : Regs F S1024x128) :
    merge (slices (F := F) (e := .f32) m h (stackAlong0 fun k => (v k).1))
      (slices (F := F) (e := .i32) m' h' (stackAlong0 fun k => (v k).2)) x = merged v x := by
  unfold merge merged
  rw [loaded_stack]

section point

variable (c : Dev nD) (i : grid0.Coords)
  (arg2 : Memref sig .tc .vmem S1024x768 .f32) (harg2 : arg2.IsWhole)
  (arg3 : Memref sig .tc .vmem S1024x768 .f32) (harg3 : arg3.IsWhole)
  (arg4 : Memref sig .tc .vmem S1x1024 .f32) (harg4 : arg4.IsWhole)
  (arg5 : Memref sig .tc .vmem S32x768 .f32) (harg5 : arg5.IsWhole)
  (arg6 : Memref sig .tc .vmem S1x32 .f32) (harg6 : arg6.IsWhole)
  (arg7 : Memref sig .tc .vmem S1024x8 .i32) (harg7 : arg7.IsWhole)
  (arg8 : Memref sig .tc .vmem S1024x32 .f32) (harg8 : arg8.IsWhole)
  (arg9 : Memref sig .tc .vmem S8x1024x128 .f32) (harg9 : arg9.IsWhole)
  (arg10 : Memref sig .tc .vmem S8x1024x128 .i32) (harg10 : arg10.IsWhole)
  (x0 : Vec F S1024x768 .f32) (x1 : Vec F S1024x768 .f32) (x2 : Vec F S1x1024 .f32) (x3 : Vec F S32x768 .f32) (x4 : Vec F S1x32 .f32)
variable (v : Regs F S1024x128)

theorem sout_A_0 (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 arg10 harg10 hc0 hc1 hc2 x0 x1 x2 x3 x4 = stackAlong0 fun k => (tile i x0 x1 x2 k).1 := by
  unfold sout0_A_0
  rw [View.read_writes_junk_eq_canon, pieces_A_0]
  exact canon_rows (F := F) (e := .f32) fun k => (tile i x0 x1 x2 k).1

theorem sout_A_1 (hc0 : cond0_0 i) (hc1 : ¬cond0_1 i) (hc2 : ¬cond0_2 i) :
    sout0_A_1 c i arg2 harg2 arg3 harg3 arg4 harg4 arg5 harg5 arg6 harg6 arg7 harg7 arg8 harg8 arg9 harg9 arg10 harg10 hc0 hc1 hc2 x0 x1 x2 x3 x4 = stackAlong0 fun k => (tile i x0 x1 x2 k).2 := by
  unfold sout0_A_1
  rw [View.read_writes_junk_eq_canon, pieces_A_1]
  exact canon_rows (F := F) (e := .i32) fun k => (tile i x0 x1 x2 k).2

theorem sout_B_0 (hc0 : ¬cond0_0 i) (hc1 : cond0_1 i) (hc2 : ¬cond0_2 i) (xs0 : Vec F S8x1024x128 .f32) (xs1 : Vec F S8x1024x128 .i32)
    (e0 : xs0 = stackAlong0 fun k => (v k).1) (e1 : xs1 = stackAlong0 fun k => (v k).2) :
    sout0_B_0 c i arg2 harg2 arg3 harg3 arg4 harg4 arg5 harg5 arg6 harg6 arg7 harg7 arg8 harg8 arg9 harg9 arg10 harg10 hc0 hc1 hc2 x0 x1 x2 x3 x4 xs0 xs1
      = stackAlong0 fun k => (merged v (tile i x0 x1 x2) k).1 := by
  subst e0 e1
  unfold sout0_B_0
  rw [View.read_writes_junk_eq_canon, pieces_B_0, merge_loaded]
  exact canon_rows (F := F) (e := .f32) fun k => (merged v (tile i x0 x1 x2) k).1

theorem sout_B_1 (hc0 : ¬cond0_0 i) (hc1 : cond0_1 i) (hc2 : ¬cond0_2 i) (xs0 : Vec F S8x1024x128 .f32) (xs1 : Vec F S8x1024x128 .i32)
    (e0 : xs0 = stackAlong0 fun k => (v k).1) (e1 : xs1 = stackAlong0 fun k => (v k).2) :
    sout0_B_1 c i arg2 harg2 arg3 harg3 arg4 harg4 arg5 harg5 arg6 harg6 arg7 harg7 arg8 harg8 arg9 harg9 arg10 harg10 hc0 hc1 hc2 x0 x1 x2 x3 x4 xs0 xs1
      = stackAlong0 fun k => (merged v (tile i x0 x1 x2) k).2 := by
  subst e0 e1
  unfold sout0_B_1
  rw [View.read_writes_junk_eq_canon, pieces_B_1, merge_loaded]
  exact canon_rows (F := F) (e := .i32) fun k => (merged v (tile i x0 x1 x2) k).2

theorem sout_C_0 (hc0 : ¬cond0_0 i) (hc1 : cond0_1 i) (hc2 : cond0_2 i) (xs0 : Vec F S8x1024x128 .f32) (xs1 : Vec F S8x1024x128 .i32)
    (e0 : xs0 = stackAlong0 fun k => (v k).1) (e1 : xs1 = stackAlong0 fun k => (v k).2) :
    sout0_C_0 c i arg2 harg2 arg3 harg3 arg4 harg4 arg5 harg5 arg6 harg6 arg7 harg7 arg8 harg8 arg9 harg9 arg10 harg10 hc0 hc1 hc2 x0 x1 x2 x3 x4 xs0 xs1
      = stackAlong0 fun k => (merged v (tile i x0 x1 x2) k).1 := by
  subst e0 e1
  unfold sout0_C_0
  rw [View.read_writes_junk_eq_canon, pieces_C_0, merge_loaded]
  exact canon_rows (F := F) (e := .f32) fun k => (merged v (tile i x0 x1 x2) k).1

theorem sout_C_1 (hc0 : ¬cond0_0 i) (hc1 : cond0_1 i) (hc2 : cond0_2 i) (xs0 : Vec F S8x1024x128 .f32) (xs1 : Vec F S8x1024x128 .i32)
    (e0 : xs0 = stackAlong0 fun k => (v k).1) (e1 : xs1 = stackAlong0 fun k => (v k).2) :
    sout0_C_1 c i arg2 harg2 arg3 harg3 arg4 harg4 arg5 harg5 arg6 harg6 arg7 harg7 arg8 harg8 arg9 harg9 arg10 harg10 hc0 hc1 hc2 x0 x1 x2 x3 x4 xs0 xs1
      = stackAlong0 fun k => (merged v (tile i x0 x1 x2) k).2 := by
  subst e0 e1
  unfold sout0_C_1
  rw [View.read_writes_junk_eq_canon, pieces_C_1, merge_loaded]
  exact canon_rows (F := F) (e := .i32) fun k => (merged v (tile i x0 x1 x2) k).2

theorem storedV_eq (hc0 : ¬cond0_0 i) (hc1 : cond0_1 i) (hc2 : cond0_2 i) :
    storedV c i arg2 harg2 arg3 harg3 arg4 harg4 arg5 harg5 arg6 harg6 arg7 harg7 arg8 harg8 arg9 harg9 arg10 harg10 x0 x1 x2 x3 x4 hc0 hc1 hc2 (stackAlong0 fun k => (v k).1) (stackAlong0 fun k => (v k).2)
      = rows (e := .f32) fun k => (merged v (tile i x0 x1 x2) k).1 := by
  unfold storedV
  rw [pieces_C_0, merge_loaded]

theorem storedI_eq (hc0 : ¬cond0_0 i) (hc1 : cond0_1 i) (hc2 : cond0_2 i) :
    storedI c i arg2 harg2 arg3 harg3 arg4 harg4 arg5 harg5 arg6 harg6 arg7 harg7 arg8 harg8 arg9 harg9 arg10 harg10 x0 x1 x2 x3 x4 hc0 hc1 hc2 (stackAlong0 fun k => (v k).1) (stackAlong0 fun k => (v k).2)
      = rows (e := .i32) fun k => (merged v (tile i x0 x1 x2) k).2 := by
  unfold storedI
  rw [pieces_C_1, merge_loaded]

/-- The ids the last tile writes. -/
theorem out_C_5 (hc0 : ¬cond0_0 i) (hc1 : cond0_1 i) (hc2 : cond0_2 i) (xs0 : Vec F S8x1024x128 .f32) (xs1 : Vec F S8x1024x128 .i32)
    (e0 : xs0 = stackAlong0 fun k => (v k).1) (e1 : xs1 = stackAlong0 fun k => (v k).2) :
    out0_C_5 c i arg2 harg2 arg3 harg3 arg4 harg4 arg5 harg5 arg6 harg6 arg7 harg7 arg8 harg8 arg9 harg9 arg10 harg10 hc0 hc1 hc2 x0 x1 x2 x3 x4 xs0 xs1 = topIds (merged v (tile i x0 x1 x2)) := by
  subst e0 e1
  unfold out0_C_5
  rw [View.read_writes_junk_eq_canon, pieces_C_5]
  refine (View.canon_unit_zero (by funext a; fin_cases a <;> rfl) _ _).trans (congrArg topIds ?_)
  exact (congrArg₂ (fun a b => loaded (readBack arg9 a) (readBack arg10 b)) (storedV_eq c i arg2 harg2 arg3 harg3 arg4 harg4 arg5 harg5 arg6 harg6 arg7 harg7 arg8 harg8 arg9 harg9 arg10 harg10 x0 x1 x2 x3 x4 v hc0 hc1 hc2) (storedI_eq c i arg2 harg2 arg3 harg3 arg4 harg4 arg5 harg5 arg6 harg6 arg7 harg7 arg8 harg8 arg9 harg9 arg10 harg10 x0 x1 x2 x3 x4 v hc0 hc1 hc2)).trans
    (loaded_rows arg9 arg10 (merged v (tile i x0 x1 x2)))

/-- The amplitudes it writes. -/
theorem out_C_6 (hc0 : ¬cond0_0 i) (hc1 : cond0_1 i) (hc2 : cond0_2 i) (xs0 : Vec F S8x1024x128 .f32) (xs1 : Vec F S8x1024x128 .i32)
    (e0 : xs0 = stackAlong0 fun k => (v k).1) (e1 : xs1 = stackAlong0 fun k => (v k).2) :
    out0_C_6 c i arg2 harg2 arg3 harg3 arg4 harg4 arg5 harg5 arg6 harg6 arg7 harg7 arg8 harg8 arg9 harg9 arg10 harg10 hc0 hc1 hc2 x0 x1 x2 x3 x4 xs0 xs1
      = ampOut x0 x3 x4 (topValues (merged v (tile i x0 x1 x2))) := by
  subst e0 e1
  unfold out0_C_6
  rw [View.read_writes_junk_eq_canon, pieces_C_6, whole2_eq, whole3_eq, whole4_eq]
  refine (View.canon_unit_zero (by funext a; fin_cases a <;> rfl) _ _).trans
    (congrArg (fun z => ampOut x0 x3 x4 (topValues z)) ?_)
  exact (congrArg₂ (fun a b => loaded (readBack arg9 a) (readBack arg10 b)) (storedV_eq c i arg2 harg2 arg3 harg3 arg4 harg4 arg5 harg5 arg6 harg6 arg7 harg7 arg8 harg8 arg9 harg9 arg10 harg10 x0 x1 x2 x3 x4 v hc0 hc1 hc2) (storedI_eq c i arg2 harg2 arg3 harg3 arg4 harg4 arg5 harg5 arg6 harg6 arg7 harg7 arg8 harg8 arg9 harg9 arg10 harg10 x0 x1 x2 x3 x4 v hc0 hc1 hc2)).trans
    (loaded_rows arg9 arg10 (merged v (tile i x0 x1 x2)))

end point

variable (m : (ℓ : Loc nD τ sig) → Buf (Elt F) ℓ) (c : Dev nD)

/-- The tile's sorted columns at a grid point. -/
def tileAt (t : Fin cfg0.N) : Regs F S1024x128 := tile (grid0.coords t) (iblk m c 0 t) (iblk m c 1 t) (iblk m c 2 t)

/-- The registers after each grid point. -/
def regs : (n : ℕ) → n < cfg0.N → Regs F S1024x128
  | 0, h => tileAt m c ⟨0, h⟩
  | n + 1, h => if (n + 1) % 8 = 0 then tileAt m c ⟨n + 1, h⟩
      else merged (regs n (Nat.lt_of_succ_lt h)) (tileAt m c ⟨n + 1, h⟩)

theorem regs_first (t : Fin cfg0.N) (h : t.val % 8 = 0) : regs m c t.val t.isLt = tileAt m c t := by
  obtain ⟨n, hn⟩ := t
  cases n with
  | zero => rfl
  | succ n => exact if_pos h

theorem regs_next (n : ℕ) (hn : n + 1 < cfg0.N) (h : ¬(n + 1) % 8 = 0) :
    regs m c (n + 1) hn = merged (regs m c n (Nat.lt_of_succ_lt hn)) (tileAt m c ⟨n + 1, hn⟩) := if_neg h

/-- The carried buffers hold the registers. -/
theorem carried (n : ℕ) (hn : n < cfg0.N) :
    (outsAt0 m c n hn).2.2.1 = (stackAlong0 fun k => (regs m c n hn k).1)
      ∧ (outsAt0 m c n hn).2.2.2 = (stackAlong0 fun k => (regs m c n hn k).2) := by
  induction n with
  | zero =>
    have h := outsAt0_A m c ⟨0, hn⟩ rfl (by dsimp only; omega) (by dsimp only; omega)
    exact ⟨(congrArg (fun z => z.2.2.1) h).trans (by dsimp only; exact sout_A_0 _ _ _ _ _ _ _ _ _ _ _ _ _ _ _ _ _ _ _ _ _ _ _ _ _ _ _ _),
        (congrArg (fun z => z.2.2.2) h).trans (by dsimp only; exact sout_A_1 _ _ _ _ _ _ _ _ _ _ _ _ _ _ _ _ _ _ _ _ _ _ _ _ _ _ _ _)⟩
  | succ n ih =>
    obtain ⟨i0, i1⟩ := ih (Nat.lt_of_succ_lt hn)
    by_cases h0 : (n + 1) % 8 = 0
    · have h := outsAt0_A m c ⟨n + 1, hn⟩ h0 (by dsimp only; omega) (by dsimp only; omega)
      rw [regs_first m c ⟨n + 1, hn⟩ h0]
      exact ⟨(congrArg (fun z => z.2.2.1) h).trans (by dsimp only; exact sout_A_0 _ _ _ _ _ _ _ _ _ _ _ _ _ _ _ _ _ _ _ _ _ _ _ _ _ _ _ _),
        (congrArg (fun z => z.2.2.2) h).trans (by dsimp only; exact sout_A_1 _ _ _ _ _ _ _ _ _ _ _ _ _ _ _ _ _ _ _ _ _ _ _ _ _ _ _ _)⟩
    · rw [regs_next m c n hn h0]
      by_cases h2 : (n + 1) % 8 = 7
      · have h := outsAt0_C m c ⟨n + 1, hn⟩ h0 (by dsimp only; omega) h2
        exact ⟨(congrArg (fun z => z.2.2.1) h).trans (by dsimp only; exact sout_C_0 _ _ _ _ _ _ _ _ _ _ _ _ _ _ _ _ _ _ _ _ _ _ _ _ _ _ _ _ _ _ _ i0 i1),
        (congrArg (fun z => z.2.2.2) h).trans (by dsimp only; exact sout_C_1 _ _ _ _ _ _ _ _ _ _ _ _ _ _ _ _ _ _ _ _ _ _ _ _ _ _ _ _ _ _ _ i0 i1)⟩
      · have h := outsAt0_B m c ⟨n + 1, hn⟩ h0 (by dsimp only; omega) h2
        exact ⟨(congrArg (fun z => z.2.2.1) h).trans (by dsimp only; exact sout_B_0 _ _ _ _ _ _ _ _ _ _ _ _ _ _ _ _ _ _ _ _ _ _ _ _ _ _ _ _ _ _ _ i0 i1),
        (congrArg (fun z => z.2.2.2) h).trans (by dsimp only; exact sout_B_1 _ _ _ _ _ _ _ _ _ _ _ _ _ _ _ _ _ _ _ _ _ _ _ _ _ _ _ _ _ _ _ i0 i1)⟩

/-- What a row block's last point writes. -/
theorem written (n : ℕ) (hn : n + 1 < cfg0.N) (h7 : (n + 1) % 8 = 7) :
    (outsAt0 m c (n + 1) hn).1 = topIds (regs m c (n + 1) hn)
      ∧ (outsAt0 m c (n + 1) hn).2.1 = ampOut (iblk m c 0 ⟨n + 1, hn⟩) (iblk m c 3 ⟨n + 1, hn⟩) (iblk m c 4 ⟨n + 1, hn⟩)
          (topValues (regs m c (n + 1) hn)) := by
  obtain ⟨i0, i1⟩ := carried m c n (Nat.lt_of_succ_lt hn)
  have h := outsAt0_C m c ⟨n + 1, hn⟩ (by dsimp only; omega) (by dsimp only; omega) h7
  rw [regs_next m c n hn (by omega)]
  exact ⟨(congrArg (fun z => z.1) h).trans (by dsimp only; exact out_C_5 _ _ _ _ _ _ _ _ _ _ _ _ _ _ _ _ _ _ _ _ _ _ _ _ _ _ _ _ _ _ _ i0 i1),
        (congrArg (fun z => z.2.1) h).trans (by dsimp only; exact out_C_6 _ _ _ _ _ _ _ _ _ _ _ _ _ _ _ _ _ _ _ _ _ _ _ _ _ _ _ _ _ _ _ i0 i1)⟩

end Cert.Top8
-- ==== Proof.Spec.lean ====
/-
  The mathematics both programs are compared with, over the extended reals: the score of a hidden row against a prime, a row's
  amplitude logits, and the normalised amplitudes of a row as a function of its logits and its eight greatest scores.
-/
module

public import Idealize.ShloMosaic.Lib.Pointwise

@[expose] public section

noncomputable section

namespace Cert.Spec

open Idealize.ShloMosaic

/-- The entry of the hidden array at row `R` of its 8192 rows. -/
def hid (h : FVec Ideal (⟨3, ![4, 2048, 768]⟩ : Shape) .f32) (R : Fin 8192) (d : Fin 768) : EReal :=
  h (ix3 ⟨R.val / 2048, by omega⟩ ⟨R.val % 2048, by omega⟩ d)

/-- The score of row `R` against prime `n` (taken modulo the number of primes). -/
def score (h : FVec Ideal (⟨3, ![4, 2048, 768]⟩ : Shape) .f32) (w : FVec Ideal (⟨2, ![8192, 768]⟩ : Shape) .f32)
    (b : FVec Ideal (⟨1, ![8192]⟩ : Shape) .f32) (R : Fin 8192) (n : ℕ) : EReal :=
  (∑ d : Fin 768, hid h R d * w (ix2 ⟨n % 8192, Nat.mod_lt _ (by decide)⟩ d)) + b (ix1 ⟨n % 8192, Nat.mod_lt _ (by decide)⟩)

/-- The amplitude logits of row `R`. -/
def logit (h : FVec Ideal (⟨3, ![4, 2048, 768]⟩ : Shape) .f32) (w : FVec Ideal (⟨2, ![32, 768]⟩ : Shape) .f32)
    (b : FVec Ideal (⟨1, ![32]⟩ : Shape) .f32) (R : Fin 8192) (q : Fin 32) : EReal :=
  (∑ d : Fin 768, hid h R d * w (ix2 q d)) + b (ix1 q)

/-- The softmax of eight values of which the first is the greatest. -/
def weight (T : Fin 8 → EReal) (k : Fin 8) : EReal :=
  Ideal.div (Ideal.exp (T k - T 0)) (∑ j : Fin 8, Ideal.exp (T j - T 0))

/-- A weighted amplitude: each head weights its four logits. -/
def amp (a : Fin 32 → EReal) (T : Fin 8 → EReal) (q : Fin 32) : EReal := a q * weight T ⟨q.val / 4, by omega⟩

/-- The amplitude divided by its head's norm, or by the floor under it. -/
def normed (a : Fin 32 → EReal) (T : Fin 8 → EReal) (q : Fin 32) : EReal :=
  Ideal.div (amp a T q) (max (Ideal.sqrt (∑ j : Fin 4, amp a T ⟨4 * (q.val / 4) + j.val, by omega⟩ * amp a T ⟨4 * (q.val / 4) + j.val, by omega⟩))
    (Ideal.ofBits .f32 0x2B8CBCCC#32))

end Cert.Spec
-- ==== Proof.Blocks.lean ====
/-
  What one tile computes, entry by entry: the input blocks of a grid point read off the arguments, and the eight columns of 128
  lanes as the scores of the point's 1024 rows against its 1024 primes, each beside the prime's id.
-/
module

public import proofs.«01_k».proof.Proof.Carry
public import proofs.«01_k».proof.Proof.Spec
public import Idealize.ShloMosaic.Lib.Claim

@[expose] public section

set_option maxRecDepth 16384

noncomputable section

namespace Cert.Top8

open Idealize.ShloMosaic Idealize.ShloMosaic.TcCoe Idealize.ShloMosaic.SortNet Cert.KernelIdeal Cert.KernelIdeal.Gen Cert.TopNet

/-- A block of products plus a row of biases. -/
theorem product_at (v0 v2 : Vec Ideal S1024x768 .f32) (v4 : Vec Ideal S1x1024 .f32) (y q : Fin 1024) :
    (k0_pay259 v0 v2 v4 : FVec Ideal S1024x1024 .f32) (ix2 y q) = (∑ d : Fin 768, v0 (ix2 y d) * v2 (ix2 q d)) + v4 (ix2 0 q) := by
  pointwise [k0_pay259, k0_pay258]

/-- Each column is 128 consecutive lanes of the block. -/
theorem column_value (i : grid0.Coords) (v0 v2 : Vec Ideal S1024x768 .f32) (v4 : Vec Ideal S1x1024 .f32) (k : Fin 8) (y : Fin 1024) (l : Fin 128) :
    (cols i v0 v2 v4 k).1 (ix2 y l) = (∑ d : Fin 768, v0 (ix2 y d) * v2 (ix2 ⟨128 * k.val + l.val, by omega⟩ d))
      + v4 (ix2 0 ⟨128 * k.val + l.val, by omega⟩) := by
  rw [← product_at]
  fin_cases k <;> (dsimp only [cols, Matrix.cons_val]; pointwise [k0_pay260, k0_pay261, k0_pay262, k0_pay263, k0_pay264, k0_pay265, k0_pay266, k0_pay267])

/-- A lane's id: the tile's first, the column's first, the lane. -/
theorem id_word (j l b : ℕ) :
    IntOp.addi (BitVec.ofNat 32 l) (Scalar.addi (Scalar.muli (BitVec.ofNat 32 j) 1024#32) (BitVec.ofNat 32 b))
      = BitVec.ofNat 32 (1024 * j + b + l) := by
  apply BitVec.eq_of_toNat_eq
  simp only [IntOp.addi, Scalar.addi, Scalar.muli, IntOp.muli, BitVec.toNat_add, BitVec.toNat_mul, BitVec.toNat_ofNat]
  omega

/-- And their ids count on from the tile's first. -/
theorem column_id (i : grid0.Coords) (v0 v2 : Vec Ideal S1024x768 .f32) (v4 : Vec Ideal S1x1024 .f32) (k : Fin 8) (y : Fin 1024) (l : Fin 128) :
    (cols i v0 v2 v4 k).2 (ix2 y l) = BitVec.ofNat 32 (1024 * (i 1).val + 128 * k.val + l.val) := by
  fin_cases k <;> (dsimp only [cols, Matrix.cons_val]; pointwise [k0_pay268, k0_pay269, k0_pay270, k0_pay271, k0_pay272, k0_pay273, k0_pay274, k0_pay275]; exact id_word _ _ _)

variable (m : (ℓ : Loc nD τ sig) → Buf (Elt Ideal) ℓ) (c : Dev nD)

/-- A grid point's row block and tile. -/
theorem coord_row (t : Fin cfg0.N) : (grid0.coords t 0).val = t.val / 8 % 8 := Pipeline.Grid.coords_val t 0 (by decide) rfl
theorem coord_tile (t : Fin cfg0.N) : (grid0.coords t 1).val = t.val % 8 := by
  rw [Pipeline.Grid.coords_val t 1 (S := 1) (B := 8) (by decide) rfl, Nat.div_one]

theorem point_lt (t : Fin cfg0.N) : t.val < 64 := lt_of_lt_of_eq t.isLt (show cfg0.N = 64 from N_0)

/-- The row of the hidden array that row `y` of a point's block is. -/
def rowOf (t : Fin cfg0.N) (y : Fin 1024) : Fin 8192 := ⟨1024 * (t.val / 8) + y.val, by have := point_lt t; omega⟩

abbrev A0 : FVec Ideal S4x2048x768 .f32 := m ((c : Thread nD τ).loc main_arg0)
abbrev A1 : FVec Ideal S8192x768 .f32 := m ((c : Thread nD τ).loc main_arg1)
abbrev A2 : FVec Ideal S8192 .f32 := m ((c : Thread nD τ).loc main_arg2)
abbrev A3 : FVec Ideal S32x768 .f32 := m ((c : Thread nD τ).loc main_arg3)
abbrev A4 : FVec Ideal S32 .f32 := m ((c : Thread nD τ).loc main_arg4)

theorem index_0 : ∀ t : Fin cfg0.N, win0_0.index t (0 : Fin 2) = t.val / 8 ∧ win0_0.index t (1 : Fin 2) = 0 :=
  (by decide +kernel : ∀ t : Fin grid0.N, _)
theorem index_1 : ∀ t : Fin cfg0.N, win0_1.index t (0 : Fin 2) = t.val % 8 ∧ win0_1.index t (1 : Fin 2) = 0 :=
  (by decide +kernel : ∀ t : Fin grid0.N, _)
theorem index_2 : ∀ t : Fin cfg0.N, win0_2.index t (0 : Fin 2) = 0 ∧ win0_2.index t (1 : Fin 2) = t.val % 8 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)
theorem index_4 : ∀ t : Fin cfg0.N, win0_4.index t (0 : Fin 2) = 0 ∧ win0_4.index t (1 : Fin 2) = 0 :=
  (by decide +kernel : ∀ t : Fin grid0.N, _)

/-- The block of hidden rows. -/
theorem block_0 (t : Fin cfg0.N) (y : Fin 1024) (d : Fin 768) :
    (iblk m c 0 t : Vec Ideal S1024x768 .f32) (ix2 y d) = Spec.hid (A0 m c) (rowOf t y) d := by
  obtain ⟨h0, h1⟩ := index_0 t
  have ha : ((cfg0.win 0).blk t).view.emb (ix2 y d) = ix2 (rowOf t y) d := by
    funext a; apply Fin.ext
    match a with
    | ⟨0, _⟩ => show win0_0.index t (0 : Fin 2) * 1024 + 1 * y.val = 1024 * (t.val / 8) + y.val; rw [h0]; omega
    | ⟨1, _⟩ => show win0_0.index t (1 : Fin 2) * 768 + 1 * d.val = d.val; rw [h1]; omega
  unfold iblk
  rw [View.read_apply, ha]
  show V m c main_call0_v0 (ix2 (rowOf t y) d) = _
  entry_read
  pointwise [Spec.hid]

/-- The block of prime vectors. -/
theorem block_1 (t : Fin cfg0.N) (q : Fin 1024) (d : Fin 768) :
    (iblk m c 1 t : Vec Ideal S1024x768 .f32) (ix2 q d) = A1 m c (ix2 ⟨1024 * (t.val % 8) + q.val, by omega⟩ d) := by
  obtain ⟨h0, h1⟩ := index_1 t
  have ha : ((cfg0.win 1).blk t).view.emb (ix2 q d) = ix2 (⟨1024 * (t.val % 8) + q.val, by omega⟩ : Fin 8192) d := by
    funext a; apply Fin.ext
    match a with
    | ⟨0, _⟩ => show win0_1.index t (0 : Fin 2) * 1024 + 1 * q.val = 1024 * (t.val % 8) + q.val; rw [h0]; omega
    | ⟨1, _⟩ => show win0_1.index t (1 : Fin 2) * 768 + 1 * d.val = d.val; rw [h1]; omega
  unfold iblk
  rw [View.read_apply, ha]
  show V m c main_arg1 _ = _
  rw [V_main_arg1]

/-- The row of prime biases. -/
theorem block_2 (t : Fin cfg0.N) (q : Fin 1024) :
    (iblk m c 2 t : Vec Ideal S1x1024 .f32) (ix2 0 q) = A2 m c (ix1 ⟨1024 * (t.val % 8) + q.val, by omega⟩) := by
  obtain ⟨h0, h1⟩ := index_2 t
  have ha : ((cfg0.win 2).blk t).view.emb (ix2 0 q) = ix2 0 (⟨1024 * (t.val % 8) + q.val, by omega⟩ : Fin 8192) := by
    funext a; apply Fin.ext
    match a with
    | ⟨0, _⟩ => show win0_2.index t (0 : Fin 2) * 1 + 1 * 0 = 0; rw [h0]
    | ⟨1, _⟩ => show win0_2.index t (1 : Fin 2) * 1024 + 1 * q.val = 1024 * (t.val % 8) + q.val; rw [h1]; omega
  unfold iblk
  rw [View.read_apply, ha]
  show V m c main_call0_v1 (ix2 0 (⟨1024 * (t.val % 8) + q.val, by omega⟩ : Fin 8192)) = _
  entry_read
  pointwise

/-- The amplitude vectors. -/
theorem block_3 (t : Fin cfg0.N) (q : Fin 32) (d : Fin 768) :
    (iblk m c 3 t : Vec Ideal S32x768 .f32) (ix2 q d) = A3 m c (ix2 q d) := by
  obtain ⟨h0, h1⟩ := index_3 t
  have ha : ((cfg0.win 3).blk t).view.emb (ix2 q d) = ix2 q d := by
    funext a; apply Fin.ext
    match a with
    | ⟨0, _⟩ => show win0_3.index t (0 : Fin 2) * 32 + 1 * q.val = q.val; rw [h0]; omega
    | ⟨1, _⟩ => show win0_3.index t (1 : Fin 2) * 768 + 1 * d.val = d.val; rw [h1]; omega
  unfold iblk
  rw [View.read_apply, ha]
  show V m c main_arg3 _ = _
  rw [V_main_arg3]

/-- The row of amplitude biases. -/
theorem block_4 (t : Fin cfg0.N) (q : Fin 32) : (iblk m c 4 t : Vec Ideal S1x32 .f32) (ix2 0 q) = A4 m c (ix1 q) := by
  obtain ⟨h0, h1⟩ := index_4 t
  have ha : ((cfg0.win 4).blk t).view.emb (ix2 0 q) = ix2 0 q := by
    funext a; apply Fin.ext
    match a with
    | ⟨0, _⟩ => show win0_4.index t (0 : Fin 2) * 1 + 1 * 0 = 0; rw [h0]
    | ⟨1, _⟩ => show win0_4.index t (1 : Fin 2) * 32 + 1 * q.val = q.val; rw [h1]; omega
  unfold iblk
  rw [View.read_apply, ha]
  show V m c main_call0_v2 (ix2 0 q) = _
  entry_read
  pointwise

/-- The scores the kernel's arguments make. -/
def s (R : Fin 8192) (n : ℕ) : EReal := Spec.score (A0 m c) (A1 m c) (A2 m c) R n

/-- The columns of a tile are the scores of its rows against its primes, with their ids. -/
theorem columns_at (t : Fin cfg0.N) (y : Fin 1024) (l : Fin 128) (k : Fin 8) :
    at' (cols (grid0.coords t) (iblk m c 0 t) (iblk m c 1 t) (iblk m c 2 t)) (ix2 y l) k
      = (s m c (rowOf t y) (1024 * (t.val % 8) + 128 * k.val + l.val), BitVec.ofNat 32 (1024 * (t.val % 8) + 128 * k.val + l.val)) := by
  have hn : (1024 * (t.val % 8) + 128 * k.val + l.val) % 8192 = 1024 * (t.val % 8) + (128 * k.val + l.val) := by omega
  refine Prod.ext ?_ ?_
  · show (cols _ _ _ _ k).1 (ix2 y l) = _
    rw [column_value]
    unfold s Spec.score
    simp only [hn, block_0, block_1, block_2]
  · show (cols _ _ _ _ k).2 (ix2 y l) = _
    rw [column_id, coord_tile]

end Cert.Top8
-- ==== Proof.Lanes.lean ====
/-
  After each tile, the carried registers of a row and lane hold the eight greatest of that lane's scores so far, greatest first,
  each beside the id of a prime that scores it. After a row block's eighth tile they are the eight greatest of the lane's 64.
-/
module

public import proofs.«01_k».proof.Proof.Blocks

@[expose] public section

set_option maxRecDepth 16384

noncomputable section

namespace Cert.Top8

open Idealize.ShloMosaic Idealize.ShloMosaic.TcCoe Idealize.ShloMosaic.SortNet Cert.KernelIdeal Cert.KernelIdeal.Gen Cert.TopNet

variable (m : (ℓ : Loc nD τ sig) → Buf (Elt Ideal) ℓ) (c : Dev nD)

/-- A lane's scores against the primes of the first `q` columns. -/
def laneScores (R : Fin 8192) (l : Fin 128) (q : ℕ) : List EReal := (List.range q).map fun n => s m c R (128 * n + l.val)

/-- A score beside the id of a prime that has it. -/
def OfPrime (R : Fin 8192) (x : EReal × BitVec 32) : Prop := ∃ n < 8192, x = (s m c R n, BitVec.ofNat 32 n)

theorem laneScores_add (R : Fin 8192) (l : Fin 128) (j : ℕ) :
    laneScores m c R l (8 * (j + 1)) = laneScores m c R l (8 * j)
      ++ List.ofFn fun k : Fin 8 => s m c R (1024 * j + 128 * k.val + l.val) := by
  unfold laneScores
  rw [Nat.mul_succ, List.range_add, List.map_append, List.map_map]
  congr 1
  rw [List.ofFn_eq_map, ← List.map_coe_finRange_eq_range, List.map_map]
  refine List.map_congr_left fun k _ => ?_
  show s m c R (128 * (8 * j + k.val) + l.val) = s m c R _
  congr 1
  omega

theorem tile_holds (t : Fin cfg0.N) (y : Fin 1024) (l : Fin 128) :
    Holds (List.ofFn fun k : Fin 8 => s m c (rowOf t y) (1024 * (t.val % 8) + 128 * k.val + l.val)) (OfPrime m c (rowOf t y))
      (at' (tileAt m c t) (ix2 y l)) := by
  have h := sorted (P := OfPrime m c (rowOf t y)) (cols (grid0.coords t) (iblk m c 0 t) (iblk m c 1 t) (iblk m c 2 t)) (ix2 y l)
    (fun k => ⟨_, by omega, columns_at m c t y l k⟩)
  simp only [columns_at] at h
  exact h

theorem regs_holds (n : ℕ) (hn : n < cfg0.N) (y : Fin 1024) (l : Fin 128) :
    Holds (laneScores m c (rowOf ⟨n, hn⟩ y) l (8 * (n % 8 + 1))) (OfPrime m c (rowOf ⟨n, hn⟩ y)) (at' (regs m c n hn) (ix2 y l)) := by
  induction n with
  | zero =>
    rw [regs_first m c ⟨0, hn⟩ rfl, laneScores_add]
    exact tile_holds m c ⟨0, hn⟩ y l
  | succ n ih =>
    rw [laneScores_add]
    by_cases h0 : (n + 1) % 8 = 0
    · rw [regs_first m c ⟨n + 1, hn⟩ h0]
      have := tile_holds m c ⟨n + 1, hn⟩ y l
      rw [h0]
      simpa only [h0, laneScores, Nat.mul_zero, List.range_zero, List.map_nil, List.nil_append] using this
    · rw [regs_next m c n hn h0]
      have hr : rowOf ⟨n, Nat.lt_of_succ_lt hn⟩ y = rowOf ⟨n + 1, hn⟩ y := by
        apply Fin.ext; show 1024 * (n / 8) + y.val = 1024 * ((n + 1) / 8) + y.val; omega
      have h1 := ih (Nat.lt_of_succ_lt hn)
      rw [hr, show n % 8 + 1 = (n + 1) % 8 by omega] at h1
      exact TopNet.merged _ _ _ h1 (tile_holds m c ⟨n + 1, hn⟩ y l)

end Cert.Top8
-- ==== Proof.Rounds.lean ====
/-
  The eight rounds on one row. In each, the greatest head of the 128 lanes is the greatest of everything left in the lanes' lists,
  so the eight values taken are the eight greatest of the row, in order; and each is taken together with the id beside it.
-/
module

public import proofs.«01_k».proof.Proof.Finish
public import Idealize.ShloMosaic.Lib.Pointwise

@[expose] public section

set_option maxRecDepth 16384

noncomputable section

namespace Cert.Top8

open Idealize.ShloMosaic Idealize.ShloMosaic.TcCoe Idealize.ShloMosaic.SortNet Cert.KernelIdeal Cert.KernelIdeal.Gen Cert.TopNet

/-! ## The three reductions of a round -/

theorem negInf_word : Ideal.ofBits .f32 0xFF800000#32 = (⊥ : EReal) := by
  simp [Ideal.ofBits, Ideal.ieee]

/-- A fold of the maximum from `−∞` that one entry dominates is that entry. -/
theorem fold_max_of_dominates (f : Fin 128 → EReal) (l : Fin 128) (h : ∀ k, f k ≤ f l) :
    Finset.univ.fold max (Ideal.ofBits .f32 4286578688#32) f = f l := by
  apply le_antisymm
  · rw [Finset.fold_max_le]
    exact ⟨by rw [show Ideal.ofBits .f32 4286578688#32 = (⊥ : EReal) from negInf_word]; exact bot_le, fun k _ => h k⟩
  · rw [Finset.le_fold_max]
    exact .inr ⟨l, Finset.mem_univ _, le_refl _⟩

theorem minsi_toInt (x y : BitVec 32) : (IntOp.minsi x y).toInt = min x.toInt y.toInt := by
  unfold IntOp.minsi
  rw [BitVec.slt_eq_decide]
  by_cases h : x.toInt < y.toInt
  · rw [if_pos (by simpa using h), min_eq_left h.le]
  · rw [if_neg (by simpa using h), min_eq_right (not_lt.mp h)]

/-- A fold of the signed minimum that one entry is least in is that entry. -/
theorem fold_minsi_of_least (f : Fin 128 → BitVec 32) (b : BitVec 32) (l : Fin 128) (hb : (f l).toInt ≤ b.toInt)
    (h : ∀ k, (f l).toInt ≤ (f k).toInt) : Finset.univ.fold IntOp.minsi b f = f l := by
  apply BitVec.eq_of_toInt_eq
  rw [← Finset.fold_hom (op := IntOp.minsi) (op' := min) (m := BitVec.toInt) minsi_toInt]
  apply le_antisymm
  · rw [Finset.fold_min_le]
    exact .inr ⟨l, Finset.mem_univ _, le_refl _⟩
  · rw [Finset.le_fold_min]
    exact ⟨hb, fun k _ => h k⟩

/-- A sum of words of which one lane's alone is counted is that lane's word. -/
theorem fold_addi_of_single (f : Fin 128 → BitVec 32) (l : Fin 128) :
    Finset.univ.fold IntOp.addi 0#32 (fun k => if k = l then f k else 0#32) = f l := by
  have h0 : ∀ t : Finset (Fin 128), l ∉ t → t.fold IntOp.addi 0#32 (fun k => if k = l then f k else 0#32) = 0#32 := by
    intro t
    induction t using Finset.induction_on with
    | empty => intro _; rfl
    | insert a t ha ih =>
      intro hl
      rw [Finset.mem_insert, not_or] at hl
      rw [Finset.fold_insert ha, ih hl.2, if_neg (Ne.symm hl.1)]
      rfl
  rw [← Finset.insert_erase (Finset.mem_univ l), Finset.fold_insert (Finset.notMem_erase _ _), h0 _ (Finset.notMem_erase _ _),
    if_pos rfl]
  simp [IntOp.addi]

/-! ## One round -/

/-- The lane a round takes: the least lane among those whose head is the row's greatest. -/
theorem round_lane (v : FVec Ideal S1024x128 .f32) (y : Fin 1024) :
    ∃ l : Fin 128, (∀ k, v (ix2 y k) ≤ v (ix2 y l)) ∧ headMax v (ix2 y 0) = v (ix2 y l)
      ∧ ∀ k, chosen v (ix2 y k) = if k = l then 1#1 else 0#1 := by
  classical
  obtain ⟨l₀, -, h₀⟩ := Finset.exists_max_image Finset.univ (fun k : Fin 128 => v (ix2 y k)) Finset.univ_nonempty
  obtain ⟨l, hl, hmin⟩ := Finset.exists_min_image (Finset.univ.filter fun k : Fin 128 => v (ix2 y k) = v (ix2 y l₀)) (fun k => k.val)
    ⟨l₀, by simp⟩
  have hle : v (ix2 y l) = v (ix2 y l₀) := (Finset.mem_filter.mp hl).2
  have hmax : ∀ k, v (ix2 y k) ≤ v (ix2 y l) := fun k => hle ▸ h₀ k (Finset.mem_univ _)
  have hhead : headMax v (ix2 y 0) = v (ix2 y l) := by
    pointwise [headMax]
    exact fold_max_of_dominates (fun k => v (ix2 y k)) l hmax
  refine ⟨l, hmax, hhead, fun k => ?_⟩
  have hsmall : ∀ q : ℕ, q ≤ 128 → (BitVec.ofNat 32 q).toInt = (q : ℤ) := fun q hq => by
    rw [BitVec.toInt_eq_toNat_of_lt (by rw [BitVec.toNat_ofNat]; omega), BitVec.toNat_ofNat]
    omega
  have hfold : Finset.univ.fold IntOp.minsi 2147483647#32
      (fun x : Fin 128 => if v (ix2 y x) = headMax v (ix2 y 0) then BitVec.ofNat 32 x.val else 128#32) = BitVec.ofNat 32 l.val := by
    refine (fold_minsi_of_least _ _ l ?_ ?_).trans (if_pos hhead.symm)
    · rw [if_pos hhead.symm, hsmall _ (by omega)]
      have : (2147483647#32 : BitVec 32).toInt = 2147483647 := by decide
      omega
    · intro k
      rw [if_pos hhead.symm, hsmall _ (by omega)]
      by_cases hk : v (ix2 y k) = headMax v (ix2 y 0)
      · rw [if_pos hk, hsmall _ (by omega)]
        exact_mod_cast hmin k (Finset.mem_filter.mpr ⟨Finset.mem_univ _, hk.trans (hhead.trans hle)⟩)
      · rw [if_neg hk, hsmall 128 (by omega)]
        omega
  pointwise [chosen, atMax, lanes]
  rw [hfold]
  by_cases hk : k = l
  · subst hk; simp [IntOp.cmpi]
  · rw [if_neg hk]
    have : BitVec.ofNat 32 k.val ≠ BitVec.ofNat 32 l.val := fun e => hk (Fin.ext (by
      have := congrArg BitVec.toInt e
      rw [hsmall _ (by omega), hsmall _ (by omega)] at this
      exact_mod_cast this))
    show BitVec.ofBool (BitVec.ofNat 32 k.val == BitVec.ofNat 32 l.val) = 0#1
    rw [beq_false_of_ne this]
    rfl

/-- All registers but the last take the next one's entries in the chosen lane. -/
theorem pop_succ (x : Regs Ideal S1024x128) (j : Fin 8) (hj : j.val + 1 < 8) :
    pop x j = (select (chosen (x 0).1) (x ⟨j.val + 1, hj⟩).1 (x j).1, select (chosen (x 0).1) (x ⟨j.val + 1, hj⟩).2 (x j).2) := by
  fin_cases j
  case «7» => exact absurd hj (by decide)
  all_goals rfl

/-- The id beside the chosen lane's head. -/
theorem chosenId_at (x : FVec Ideal S1024x128 .f32 × IVec S1024x128 32) (y : Fin 1024) (l : Fin 128)
    (h : ∀ k, chosen x.1 (ix2 y k) = if k = l then 1#1 else 0#1) : chosenId x (ix2 y 0) = x.2 (ix2 y l) := by
  pointwise [chosenId]
  have e : (fun q : Fin 128 => Scalar.select (chosen x.1 (ix2 y q)) (x.2 (ix2 y q)) 0#32) = fun q => if q = l then x.2 (ix2 y q) else 0#32 := by
    funext q
    rw [h q]
    by_cases hq : q = l
    · rw [if_pos hq, if_pos hq]; rfl
    · rw [if_neg hq, if_neg hq]; rfl
  rw [e]
  exact fold_addi_of_single (fun q => x.2 (ix2 y q)) l

/-- What a round does to a row: a lane whose head is greatest gives its head and the id beside it, and its registers move up. -/
theorem round_at (x : Regs Ideal S1024x128) (y : Fin 1024) :
    ∃ l : Fin 128, (∀ k, (at' x (ix2 y k) 0).1 ≤ (at' x (ix2 y l) 0).1)
      ∧ (headMax (x 0).1 (ix2 y 0), chosenId (x 0) (ix2 y 0)) = at' x (ix2 y l) 0
      ∧ ∀ (k : Fin 128) (j : Fin 8) (hj : j.val + 1 < 8), at' (pop x) (ix2 y k) j
          = if k = l then at' x (ix2 y k) ⟨j.val + 1, hj⟩ else at' x (ix2 y k) j := by
  obtain ⟨l, h1, h2, h3⟩ := round_lane (x 0).1 y
  refine ⟨l, h1, ?_, fun k j hj => ?_⟩
  · unfold at'
    rw [h2]
    rw [chosenId_at (x 0) y l h3]
  · have hsel : ∀ {α : Type} (a b : S1024x128.Idx → α), select (chosen (x 0).1) a b (ix2 y k) = if k = l then a (ix2 y k) else b (ix2 y k) := by
      intro α a b
      show Scalar.select (chosen (x 0).1 (ix2 y k)) _ _ = _
      rw [h3 k]
      by_cases hq : k = l
      · rw [if_pos hq, if_pos hq]; rfl
      · rw [if_neg hq, if_neg hq]; rfl
    have hstep : ∀ a b : FVec Ideal S1024x128 .f32 × IVec S1024x128 32,
        ((select (chosen (x 0).1) a.1 b.1 (ix2 y k), select (chosen (x 0).1) a.2 b.2 (ix2 y k)) : EReal × BitVec 32)
          = if k = l then (a.1 (ix2 y k), a.2 (ix2 y k)) else (b.1 (ix2 y k), b.2 (ix2 y k)) := by
      intro a b
      rw [hsel, hsel]
      split <;> rfl
    unfold at'
    rw [pop_succ x j hj]
    dsimp only
    exact hstep (x ⟨j.val + 1, hj⟩) (x j)

/-! ## The lists -/

/-- An entry at least every entry comes first. -/
theorem topList_cons {n : ℕ} {L L' : List EReal} {a : EReal} (hp : L.Perm (a :: L')) (hmax : ∀ b ∈ L, b ≤ a) :
    topList (n + 1) L = a :: topList n L' := by
  rw [topList_perm hp]
  have h := List.pairwise_insertionSort (· ≥ ·) L'
  have e : (a :: L').insertionSort (· ≥ ·) = a :: L'.insertionSort (· ≥ ·) :=
    eq_of_perm_of_descending ((List.perm_insertionSort _ _).trans ((List.perm_insertionSort _ _).symm.cons a))
      (List.pairwise_insertionSort _ _)
      (List.pairwise_cons.mpr ⟨fun b hb => hmax b (hp.mem_iff.mpr (List.mem_cons_of_mem _ ((List.mem_insertionSort _).mp hb))), h⟩)
  unfold topList
  rw [e, List.take_succ_cons]

/-- Taking the first entry of one of several lists takes it from their concatenation. -/
theorem flatten_perm (T T' : Fin 128 → List EReal) (l : Fin 128) (a : EReal) (hl : T l = a :: T' l) (ho : ∀ k, k ≠ l → T k = T' k) :
    (List.ofFn T).flatten.Perm (a :: (List.ofFn T').flatten) := by
  rw [List.perm_iff_count]
  intro b
  rw [List.count_cons, List.count_flatten, List.count_flatten, List.map_ofFn, List.map_ofFn, List.sum_ofFn, List.sum_ofFn]
  have h : ∀ k, (List.count b ∘ T) k = (List.count b ∘ T') k + if k = l then (if (a == b) = true then 1 else 0) else 0 := by
    intro k
    by_cases hk : k = l
    · subst hk; simp only [Function.comp_apply, hl, List.count_cons, if_true]
    · simp only [Function.comp_apply, ho k hk, if_neg hk, Nat.add_zero]
  rw [Finset.sum_congr rfl fun k _ => h k, Finset.sum_add_distrib, Finset.sum_ite_eq' Finset.univ l]
  simp

/-! ## The eight rounds -/

/-- The value and the id taken in round `r`. -/
def taken (x : Regs Ideal S1024x128) (y : Fin 1024) (r : ℕ) : EReal × BitVec 32 :=
  (headMax (pop^[r] x 0).1 (ix2 y 0), chosenId (pop^[r] x 0) (ix2 y 0))

/-- What is left of a lane's list after `q` of its entries have been taken. -/
def left (W : Fin 128 → ℕ → EReal × BitVec 32) (k : Fin 128) (q : ℕ) : List EReal := (List.range' q (8 - q)).map fun n => (W k n).1

/-- The state of the rounds: how many entries each lane has given, what its registers are now, and the values taken so far. -/
theorem rounds (x : Regs Ideal S1024x128) (y : Fin 1024) (P : EReal × BitVec 32 → Prop) (W : Fin 128 → ℕ → EReal × BitVec 32)
    (hx : ∀ k (j : Fin 8), at' x (ix2 y k) j = W k j.val) (hW : ∀ k i j, i ≤ j → j < 8 → (W k j).1 ≤ (W k i).1)
    (hP : ∀ k j, j < 8 → P (W k j)) (r : ℕ) (hr : r ≤ 8) :
    ∃ q : Fin 128 → ℕ, (∀ k, q k ≤ r) ∧ (∀ k (j : Fin 8), j.val + r < 8 → at' (pop^[r] x) (ix2 y k) j = W k (j.val + q k))
      ∧ (topList 8 (List.ofFn fun k => left W k 0).flatten
          = (List.range r).map (fun n => (taken x y n).1) ++ topList (8 - r) (List.ofFn fun k => left W k (q k)).flatten)
      ∧ ∀ n < r, P (taken x y n) := by
  induction r with
  | zero => exact ⟨fun _ => 0, fun _ => le_refl _, fun k j _ => hx k j, rfl, fun n h => absurd h (Nat.not_lt_zero n)⟩
  | succ r ih =>
    obtain ⟨q, h1, h2, h3, h4⟩ := ih (Nat.le_of_succ_le hr)
    obtain ⟨l, g1, g2, g3⟩ := round_at (pop^[r] x) y
    have hhead : ∀ k, at' (pop^[r] x) (ix2 y k) 0 = W k (q k) := fun k => by
      rw [h2 k 0 (by show 0 + r < 8; omega)]; congr 1; exact Nat.zero_add _
    have ht : taken x y r = W l (q l) := g2.trans (hhead l)
    simp only [hhead] at g1
    refine ⟨fun k => if k = l then q k + 1 else q k, fun k => ?_, fun k j hj => ?_, ?_, fun n hn => ?_⟩
    · have := h1 k
      dsimp only
      split <;> omega
    · rw [Function.iterate_succ_apply', g3 k j (by omega)]
      by_cases hk : k = l
      · rw [if_pos hk, h2 k _ (by show j.val + 1 + r < 8; omega)]
        simp only [if_pos hk]
        congr 1
        show j.val + 1 + q k = _
        omega
      · rw [if_neg hk, h2 k _ (by omega)]
        simp only [if_neg hk]
    · rw [h3, List.range_succ, List.map_append, List.append_assoc]
      congr 1
      rw [show 8 - r = (8 - (r + 1)) + 1 by omega]
      have hq := h1 l
      refine topList_cons (a := (taken x y r).1) (flatten_perm _ _ l _ ?_ ?_) ?_
      · rw [ht]
        simp only [if_true, left]
        rw [show 8 - q l = (8 - (q l + 1)) + 1 by omega, List.range'_succ, List.map_cons]
      · intro k hk
        simp only [if_neg hk]
      · intro b hb
        rw [List.mem_flatten] at hb
        obtain ⟨L, hL, hbL⟩ := hb
        rw [List.mem_ofFn] at hL
        obtain ⟨k, rfl⟩ := hL
        obtain ⟨n, hn, rfl⟩ := List.mem_map.mp hbL
        rw [List.mem_range'_1] at hn
        have hqk := h1 k
        rw [ht]
        exact (hW k (q k) n hn.1 (by omega)).trans (g1 k)
    · rcases Nat.lt_succ_iff_lt_or_eq.mp hn with h | h
      · exact h4 n h
      · subst h
        rw [ht]
        have := h1 l
        exact hP l _ (by omega)

/-- The two blocks the rounds fill, entry by entry. -/
theorem topValues_at (x : Regs Ideal S1024x128) (y : Fin 1024) (r : Fin 8) : topValues x (ix2 y r) = (taken x y r.val).1 := by
  unfold taken
  dsimp only
  fin_cases r <;> (pointwise [topValues]; simp only [Function.iterate_succ_apply, Function.iterate_zero_apply])

theorem topIds_at (x : Regs Ideal S1024x128) (y : Fin 1024) (r : Fin 8) : topIds x (ix2 y r) = (taken x y r.val).2 := by
  unfold taken
  dsimp only
  fin_cases r <;> (pointwise [topIds]; simp only [Function.iterate_succ_apply, Function.iterate_zero_apply])

/-- The values taken are the eight greatest of the row's, greatest first; each is taken with its id. -/
theorem rounds_top (x : Regs Ideal S1024x128) (y : Fin 1024) (P : EReal × BitVec 32 → Prop) (L : Fin 128 → List EReal)
    (hx : ∀ k, Holds (L k) P (at' x (ix2 y k))) :
    List.ofFn (fun r : Fin 8 => topValues x (ix2 y r)) = topList 8 (List.ofFn L).flatten
      ∧ ∀ r : Fin 8, P (topValues x (ix2 y r), topIds x (ix2 y r)) := by
  let W : Fin 128 → ℕ → EReal × BitVec 32 := fun k n => if h : n < 8 then at' x (ix2 y k) ⟨n, h⟩ else (0, 0#32)
  have hWj : ∀ k n (h : n < 8), W k n = at' x (ix2 y k) ⟨n, h⟩ := fun k n h => dif_pos h
  obtain ⟨q, -, -, h3, h4⟩ := rounds x y P W (fun k j => (hWj k j.val j.isLt).symm)
    (fun k i j hij hj => by
      rw [hWj k j hj, hWj k i (by omega)]
      exact (hx k).descending (show (⟨i, by omega⟩ : Fin 8) ≤ ⟨j, hj⟩ from hij))
    (fun k j hj => by rw [hWj k j hj]; exact (hx k).each _) 8 (le_refl _)
  refine ⟨?_, fun r => ?_⟩
  · have hleft : ∀ k, left W k 0 = topList 8 (L k) := fun k => by
      rw [← (hx k).values]
      unfold left
      rw [← List.range_eq_range', List.ofFn_eq_map, ← List.map_coe_finRange_eq_range, List.map_map]
      exact List.map_congr_left fun j _ => by
        show (W k j.val).1 = _
        rw [hWj k j.val j.isLt]
    have hflat : ∀ M : List (List EReal), topList 8 (M.map (topList 8)).flatten = topList 8 M.flatten := by
      intro M
      induction M with
      | nil => rfl
      | cons a M ih =>
        rw [List.map_cons, List.flatten_cons, List.flatten_cons, ← topList_append_topList_topList, topList_topList, ih,
          topList_append_topList_topList]
    have e : (List.ofFn fun k => left W k 0) = (List.ofFn L).map (topList 8) := by
      rw [List.map_ofFn]
      congr 1
      funext k
      exact hleft k
    rw [e, hflat] at h3
    rw [h3, Nat.sub_self, show topList 0 (List.ofFn fun k => left W k (q k)).flatten = [] from List.take_zero, List.append_nil,
      List.ofFn_eq_map, ← List.map_coe_finRange_eq_range, List.map_map]
    exact List.map_congr_left fun r _ => topValues_at x y r
  · rw [topValues_at, topIds_at, Prod.mk.eta]
    exact h4 r.val r.isLt

end Cert.Top8
-- ==== Proof.Amps.lean ====
/-
  The block of amplitudes a row block's last tile stores, entry by entry. The kernel spreads the eight weights over the 32 logits,
  and sums squares head by head, by products with matrices of zeros and ones; both are sums of which only one head's terms count.
-/
module

public import proofs.«01_k».proof.Proof.Finish
public import proofs.«01_k».proof.Proof.Spec

@[expose] public section

set_option maxRecDepth 16384

noncomputable section

namespace Cert.Top8

open Idealize.ShloMosaic Idealize.ShloMosaic.TcCoe Idealize.ShloMosaic.SortNet Cert.KernelIdeal Cert.KernelIdeal.Gen Cert.TopNet

/-- The quotient of a word by 4, rounded down, as the body computes it. -/
def quarter (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 4#32 0#32)) (Scalar.extui (Scalar.cmpi CmpIPredicate.slt 4#32 0#32))))
      (IntOp.cmpi CmpIPredicate.ne (IntOp.remsi ArithUnit.vector x 4#32) 0#32))
    (IntOp.subi (IntOp.divsi ArithUnit.vector x 4#32) 1#32)
    (IntOp.divsi ArithUnit.vector x 4#32)

/-- The head of an amplitude. -/
def head (q : Fin 32) : Fin 8 := ⟨q.val / 4, by omega⟩

theorem quarter_eq : ∀ q : Fin 32, quarter (BitVec.ofNat 32 q.val) = BitVec.ofNat 32 (head q).val := by decide +kernel

/-- A comparison of small numbers as an extended real: one where they are equal, zero elsewhere. -/
theorem mark_eq : ∀ a b : Fin 8, BitVec.setWidth 32 (IntOp.cmpi .eq (BitVec.ofNat 32 a.val) (BitVec.ofNat 32 b.val)) = if a = b then 1#32 else 0#32 := by
  decide +kernel

theorem sitofp_mark (p : Prop) [Decidable p] : (FloatOps.sitofp (F := Ideal) .f32 (if p then 1#32 else 0#32) : EReal) = if p then 1 else 0 := by
  show (((if p then 1#32 else 0#32 : BitVec 32).toInt : ℝ) : EReal) = _
  split <;> simp

/-- A sum over the 32 amplitudes of which one head's count is a sum over that head's four. -/
theorem sum_head (f : Fin 32 → EReal) (q : Fin 32) :
    (∑ p : Fin 32, f p * if head p = head q then 1 else 0) = ∑ j : Fin 4, f ⟨4 * (q.val / 4) + j.val, by omega⟩ := by
  have h : ∀ p : Fin 32, (f p * if head p = head q then 1 else 0) = if head p = head q then f p else 0 := fun p => by
    split
    · exact mul_one _
    · exact mul_zero _
  rw [Finset.sum_congr rfl fun p _ => h p, ← Finset.sum_filter]
  refine Finset.sum_nbij' (fun p => (⟨p.val % 4, by omega⟩ : Fin 4)) (fun j => (⟨4 * (q.val / 4) + j.val, by omega⟩ : Fin 32)) ?_ ?_ ?_ ?_ ?_
  · intro p _; exact Finset.mem_univ _
  · intro j _
    refine Finset.mem_filter.mpr ⟨Finset.mem_univ _, Fin.ext ?_⟩
    show (4 * (q.val / 4) + j.val) / 4 = q.val / 4
    omega
  · intro p hp
    have : p.val / 4 = q.val / 4 := congrArg Fin.val (Finset.mem_filter.mp hp).2
    apply Fin.ext
    show 4 * (q.val / 4) + p.val % 4 = p.val
    omega
  · intro j _
    apply Fin.ext
    show (4 * (q.val / 4) + j.val) % 4 = j.val
    omega
  · intro p hp
    have : p.val / 4 = q.val / 4 := congrArg Fin.val (Finset.mem_filter.mp hp).2
    congr 1
    apply Fin.ext
    show p.val = 4 * (q.val / 4) + p.val % 4
    omega

variable (v0 : Vec Ideal S1024x768 .f32) (v3 : Vec Ideal S32x768 .f32) (v4 : Vec Ideal S1x32 .f32) (t : FVec Ideal S1024x8 .f32)

/-- The logits of a block's row. -/
def blockLogit (y : Fin 1024) (q : Fin 32) : EReal := (∑ d : Fin 768, v0 (ix2 y d) * v3 (ix2 q d)) + v4 (ix2 0 q)

/-- The weighted amplitudes. -/
theorem weighted_at (y : Fin 1024) (q : Fin 32) :
    k0_pay254 (k0_pay258 v0) (expTop t) (sumTop t) v3 v4 (ix2 y q) = Spec.amp (blockLogit v0 v3 v4 y) (fun k => t (ix2 y k)) q := by
  have hmark : ∀ x : Fin 8, (FloatOps.sitofp (F := Ideal) .f32
      (BitVec.setWidth 32 (IntOp.cmpi .eq (quarter (BitVec.ofNat 32 q.val)) (BitVec.ofNat 32 x.val))) : EReal) = if head q = x then 1 else 0 := fun x => by
    rw [quarter_eq, mark_eq (head q) x, sitofp_mark]
  have hexp : ∀ x : Fin 8, expTop t (ix2 y x) = Ideal.exp (t (ix2 y x) - t (ix2 y 0)) := fun x => by pointwise [expTop]
  have hsum : sumTop t (ix1 y) = ∑ x : Fin 8, Ideal.exp (t (ix2 y x) - t (ix2 y 0)) := by pointwise [sumTop, expTop]
  pointwise [k0_pay254, k0_pay258]
  unfold Spec.amp blockLogit
  congr 1
  have e : ∀ x : Fin 8, (Ideal.div (expTop t (ix2 y x)) (sumTop t (ix1 y)) * if head q = x then (1 : EReal) else 0)
      = if head q = x then Spec.weight (fun k => t (ix2 y k)) x else 0 := fun x => by
    rw [hexp, hsum]
    split
    · exact mul_one _
    · exact mul_zero _
  refine (Finset.sum_congr rfl fun x _ => (congrArg (_ * ·) (hmark x)).trans (e x)).trans ?_
  rw [Finset.sum_ite_eq Finset.univ (head q), if_pos (Finset.mem_univ _)]
  rfl

/-- The stored block. -/
theorem ampOut_at (y : Fin 1024) (q : Fin 32) :
    ampOut v0 v3 v4 t (ix2 y q) = Spec.normed (blockLogit v0 v3 v4 y) (fun k => t (ix2 y k)) q := by
  have hmark : ∀ x : Fin 32, (FloatOps.sitofp (F := Ideal) .f32 (k0_pay257 (iota .tc S32x32 32 [0] iota_S32x32_d0_w32)
      (iota .tc S32x32 32 [1] iota_S32x32_d1_w32) 4#32 k0_pay256 0#32 (ix2 x q)) : EReal) = if head x = head q then 1 else 0 := fun x => by
    rw [← sitofp_mark, ← mark_eq (head x) (head q)]
    congr 1
    pointwise [k0_pay257, k0_pay256]
    show BitVec.setWidth 32 (IntOp.cmpi .eq (quarter (BitVec.ofNat 32 x.val)) (quarter (BitVec.ofNat 32 q.val))) = _
    rw [quarter_eq, quarter_eq]
  have hsq : ∀ x : Fin 32, k0_pay255 (k0_pay258 v0) (expTop t) (sumTop t) v3 v4 (ix2 y x)
      = Spec.amp (blockLogit v0 v3 v4 y) (fun k => t (ix2 y k)) x * Spec.amp (blockLogit v0 v3 v4 y) (fun k => t (ix2 y k)) x := fun x => by
    rw [← weighted_at]
    pointwise [k0_pay255, k0_pay258]
  pointwise [ampOut, k0_pay49]
  rw [weighted_at]
  unfold Spec.normed
  congr 3
  refine (Finset.sum_congr rfl fun x _ => congrArg₂ (· * ·) (hsq x) (hmark x)).trans ?_
  exact sum_head _ q

end Cert.Top8
-- ==== Proof.Kernel.lean ====
/-
  The kernel's two results, entry by entry. A row's 128 lanes hold its 8192 scores between them, so the values taken by the eight
  rounds are the eight greatest of the row, each with the id of a prime that scores it; the amplitudes are those of these values.
-/
module

public import proofs.«01_k».proof.Proof.Lanes
public import proofs.«01_k».proof.Proof.Rounds
public import proofs.«01_k».proof.Proof.Amps

@[expose] public section

set_option maxRecDepth 16384

noncomputable section

namespace Cert.Top8

open Idealize.ShloMosaic Idealize.ShloMosaic.TcCoe Idealize.ShloMosaic.SortNet Cert.KernelIdeal Cert.KernelIdeal.Gen Cert.KernelIdeal.Value Cert.TopNet

variable (m : (ℓ : Loc nD τ sig) → Buf (Elt Ideal) ℓ) (c : Dev nD)

/-- The primes of the 128 lanes are all the primes, once each. -/
theorem lanes_perm : (List.ofFn fun l : Fin 128 => (List.range 64).map fun n => 128 * n + l.val).flatten.Perm (List.range 8192) := by
  refine (List.perm_ext_iff_of_nodup ?_ List.nodup_range).mpr fun p => ?_
  · rw [List.nodup_flatten, List.pairwise_ofFn]
    constructor
    · intro L hL
      obtain ⟨l, rfl⟩ := List.mem_ofFn.mp hL
      exact List.nodup_range.map fun a b h => by
        have h' : 128 * a + l.val = 128 * b + l.val := h
        omega
    · intro l l' hll p hp hp'
      obtain ⟨n, -, rfl⟩ := List.mem_map.mp hp
      obtain ⟨n', -, h⟩ := List.mem_map.mp hp'
      have h1 : l.val < l'.val := hll
      omega
  · rw [List.mem_flatten, List.mem_range]
    constructor
    · rintro ⟨L, hL, hp⟩
      obtain ⟨l, rfl⟩ := List.mem_ofFn.mp hL
      obtain ⟨n, hn, rfl⟩ := List.mem_map.mp hp
      rw [List.mem_range] at hn
      omega
    · intro hp
      exact ⟨_, List.mem_ofFn.mpr ⟨⟨p % 128, Nat.mod_lt _ (by decide)⟩, rfl⟩,
        List.mem_map.mpr ⟨p / 128, List.mem_range.mpr (by omega), Nat.div_add_mod p 128⟩⟩

/-- So the lanes' scores are the row's. -/
theorem scores_perm (R : Fin 8192) :
    (List.ofFn fun l : Fin 128 => laneScores m c R l 64).flatten.Perm (List.ofFn fun p : Fin 8192 => s m c R p.val) := by
  have h := (lanes_perm).map (s m c R)
  rw [List.map_flatten, List.map_ofFn] at h
  have e : (List.ofFn fun p : Fin 8192 => s m c R p.val) = List.map (s m c R) (List.range 8192) := by
    rw [List.ofFn_eq_map, ← List.map_coe_finRange_eq_range, List.map_map]
    rfl
  rw [e]
  refine List.Perm.trans (List.Perm.of_eq ?_) h
  simp only [Function.comp_def, List.map_map]
  rfl

/-- The last point of a row block. -/
def lastPoint (b : Fin 8) : Fin cfg0.N := ⟨8 * b.val + 7, by have : cfg0.N = 64 := N_0; omega⟩

/-- The registers at a row block's end. -/
def lastRegs (b : Fin 8) : Regs Ideal S1024x128 := regs m c (lastPoint b).val (lastPoint b).isLt

/-- The values and ids taken from them. -/
theorem last_top (b : Fin 8) (y : Fin 1024) :
    List.ofFn (fun r : Fin 8 => topValues (lastRegs m c b) (ix2 y r)) = topList 8 (List.ofFn fun p : Fin 8192 => s m c (rowOf (lastPoint b) y) p.val)
      ∧ ∀ r : Fin 8, OfPrime m c (rowOf (lastPoint b) y) (topValues (lastRegs m c b) (ix2 y r), topIds (lastRegs m c b) (ix2 y r)) := by
  have h := rounds_top (lastRegs m c b) y (OfPrime m c (rowOf (lastPoint b) y)) (fun l => laneScores m c (rowOf (lastPoint b) y) l 64)
    (fun l => by
      have h := regs_holds m c (lastPoint b).val (lastPoint b).isLt y l
      rw [show 8 * ((lastPoint b).val % 8 + 1) = 64 by show 8 * ((8 * b.val + 7) % 8 + 1) = 64; omega] at h
      exact h)
  rw [topList_perm (scores_perm m c _)] at h
  exact h

/-- The amplitudes of a row. -/
theorem last_amps (b : Fin 8) (y : Fin 1024) (q : Fin 32) :
    ampOut (iblk m c 0 (lastPoint b)) (iblk m c 3 (lastPoint b)) (iblk m c 4 (lastPoint b)) (topValues (lastRegs m c b)) (ix2 y q)
      = Spec.normed (Spec.logit (A0 m c) (A3 m c) (A4 m c) (rowOf (lastPoint b) y)) (fun k => topValues (lastRegs m c b) (ix2 y k)) q := by
  rw [ampOut_at]
  congr 1
  funext q
  unfold blockLogit Spec.logit
  simp only [block_0, block_3, block_4]

/-- The blocks a row of the results comes from. -/
def blockOf (R : Fin 8192) : Fin 8 := ⟨R.val / 1024, by omega⟩
def inBlock (R : Fin 8192) : Fin 1024 := ⟨R.val % 1024, Nat.mod_lt _ (by decide)⟩

theorem rowOf_block (R : Fin 8192) : rowOf (lastPoint (blockOf R)) (inBlock R) = R := by
  apply Fin.ext
  show 1024 * ((8 * (R.val / 1024) + 7) / 8) + R.val % 1024 = R.val
  omega

theorem written_last (b : Fin 8) :
    (outsAt0 m c (lastPoint b).val (lastPoint b).isLt).1 = topIds (lastRegs m c b)
      ∧ (outsAt0 m c (lastPoint b).val (lastPoint b).isLt).2.1 = ampOut (iblk m c 0 (lastPoint b)) (iblk m c 3 (lastPoint b))
        (iblk m c 4 (lastPoint b)) (topValues (lastRegs m c b)) :=
  written m c (8 * b.val + 6) (lastPoint b).isLt (by omega)

/-- The first result holds the ids taken. -/
theorem first_result (R : Fin 8192) (k : Fin 8) : G5 m c (ix2 R k) = topIds (lastRegs m c (blockOf R)) (ix2 (inBlock R) k) := by
  have hp : pt5Of (ix2 R k) = (lastPoint (blockOf R)).val := by
    show 8 * (1 * (R.val / 1024 - 0) + 1 * (k.val / 8 - 0)) + 7 = 8 * (R.val / 1024) + 7
    omega
  have hl : loc5Of (ix2 R k) = ix2 (inBlock R) k := by
    funext a; apply Fin.ext
    match a with
    | ⟨0, _⟩ => rfl
    | ⟨1, _⟩ => show k.val % 8 = k.val; omega
  unfold G5
  rw [dif_pos (by rw [hp]; exact (lastPoint (blockOf R)).isLt), hl,
    fold0_congr m c _ _ _ (by rw [← hp, hp]; have := (lastPoint (blockOf R)).isLt; omega) hp, ← outsAt0_sweep m c _ (lastPoint (blockOf R)).isLt]
  exact congrFun (written_last m c (blockOf R)).1 _

/-- The second result holds the amplitudes. -/
theorem second_result (R : Fin 8192) (q : Fin 32) : G6 m c (ix2 R q) = ampOut (iblk m c 0 (lastPoint (blockOf R)))
    (iblk m c 3 (lastPoint (blockOf R))) (iblk m c 4 (lastPoint (blockOf R))) (topValues (lastRegs m c (blockOf R))) (ix2 (inBlock R) q) := by
  have hp : pt6Of (ix2 R q) = (lastPoint (blockOf R)).val := by
    show 8 * (1 * (R.val / 1024 - 0) + 1 * (q.val / 32 - 0)) + 7 = 8 * (R.val / 1024) + 7
    omega
  have hl : loc6Of (ix2 R q) = ix2 (inBlock R) q := by
    funext a; apply Fin.ext
    match a with
    | ⟨0, _⟩ => rfl
    | ⟨1, _⟩ => show q.val % 32 = q.val; omega
  unfold G6
  rw [dif_pos (by rw [hp]; exact (lastPoint (blockOf R)).isLt), hl,
    fold0_congr m c _ _ _ (by rw [← hp, hp]; have := (lastPoint (blockOf R)).isLt; omega) hp, ← outsAt0_sweep m c _ (lastPoint (blockOf R)).isLt]
  exact congrFun (written_last m c (blockOf R)).2 _

end Cert.Top8
-- ==== Proof.Order.lean ====
/-
  A stable sort of positions by "the greater entry first" lists the entries from greatest to least; its first entries are the list
  of the greatest. The reference's top-k is that sort, cut to its first positions.
-/
module

public import Idealize.ShloMosaic.Lib.SortFacts
public import Idealize.ShloMosaic.Lib.SortNet.TopList
public import Idealize.ShloMosaic.Lib.SortNet.Positions
public import Idealize.ShloMosaic.Lib.Pointwise

@[expose] public section

set_option maxRecDepth 16384

noncomputable section

namespace Cert.Order

open Idealize.ShloMosaic Idealize.ShloMosaic.SortNet

/-- The position of rank `i` among the entries `e`. -/
def rank {n : ℕ} (e : Fin n → EReal) : Fin n → Fin n := sortedFrom (greaterFirst e)

theorem rank_antitone {n : ℕ} (e : Fin n → EReal) {i j : Fin n} (h : i ≤ j) : e (rank e j) ≤ e (rank e i) := by
  rcases lt_or_eq_of_le h with h | h
  · have := sortedFrom_noInversion (greaterFirst e) (greaterFirst e)
      (fun a b hab => by simp only [greaterFirst, decide_eq_true_eq, decide_eq_false_iff_not, not_lt] at hab ⊢; exact hab.le)
      (fun _ _ h => h)
      (fun a b c hab hbc => by simp only [greaterFirst, decide_eq_false_iff_not, not_lt] at hab hbc ⊢; exact hab.trans hbc) i j h
    simp only [greaterFirst, decide_eq_false_iff_not, not_lt] at this
    exact this
  · rw [h]

/-- The greatest entries are the entries of the first ranks. -/
theorem topList_ofFn {n : ℕ} (e : Fin n → EReal) (k : ℕ) : topList k (List.ofFn e) = (List.ofFn fun i => e (rank e i)).take k := by
  unfold topList
  congr 1
  symm
  refine eq_of_perm_of_descending ?_ ?_ (List.pairwise_insertionSort _ _)
  · refine List.Perm.trans ?_ (List.perm_insertionSort _ _).symm
    exact Equiv.Perm.ofFn_comp_perm (Equiv.ofBijective (rank e) ⟨sortedFrom_injective _, sortedFrom_surjective _⟩) e
  · rw [List.pairwise_ofFn]
    exact fun i j hij => rank_antitone e hij.le

/-- An entry strictly between its neighbours in rank is at one position alone. -/
theorem eq_rank_of_settled {n : ℕ} (e : Fin n → EReal) (k p : Fin n) (hp : e p = e (rank e k))
    (ha : ∀ h : 0 < k.val, e (rank e k) < e (rank e ⟨k.val - 1, by omega⟩))
    (hb : ∀ h : k.val + 1 < n, e (rank e ⟨k.val + 1, h⟩) < e (rank e k)) : p = rank e k := by
  obtain ⟨i, rfl⟩ := sortedFrom_surjective (greaterFirst e) p
  rcases lt_trichotomy i k with h | h | h
  · have h' : i.val < k.val := h
    have h1 := rank_antitone e (show i ≤ ⟨k.val - 1, by omega⟩ from Fin.le_def.mpr (by show i.val ≤ k.val - 1; omega))
    exact absurd hp (ne_of_gt (lt_of_lt_of_le (ha (by omega)) h1))
  · rw [h]; rfl
  · have h' : k.val < i.val := h
    have h1 := rank_antitone e (show (⟨k.val + 1, by omega⟩ : Fin n) ≤ i from Fin.le_def.mpr (by show k.val + 1 ≤ i.val; omega))
    exact absurd hp (ne_of_lt (lt_of_le_of_lt h1 (hb (by omega))))

/-- The total order's "greater" is the extended reals'. -/
theorem greater_word (a b : EReal) : (FloatOps.cmpfTotal (F := Ideal) (φ := .f32) .gt a b == 1#1) = decide (b < a) := by
  show (BitVec.ofBool (decide (b < a)) == 1#1) = decide (b < a)
  by_cases h : b < a <;> simp [h]

/-- The top-k of an array's last axis, entry by entry. -/
theorem topK_at {a b c n : ℕ} (x : FVec Ideal (⟨3, ![a, b, c]⟩ : Shape) .f32)
    (h : (⟨3, ![a, b, c]⟩ : Shape).Slices (fun _ => 0) (⟨3, ![a, b, n]⟩ : Shape)) (hn : n ≤ c) (i : Fin a) (j : Fin b) (k : Fin n) :
    (Host.topK (⟨3, ![a, b, n]⟩ : Shape) 2 (FloatOps.cmpfTotal (F := Ideal) (φ := .f32) .gt) x h).1 (ix3 i j k)
        = x (ix3 i j (rank (fun p => x (ix3 i j p)) (k.castLE hn)))
      ∧ (Host.topK (⟨3, ![a, b, n]⟩ : Shape) 2 (FloatOps.cmpfTotal (F := Ideal) (φ := .f32) .gt) x h).2 (ix3 i j k)
        = BitVec.ofNat 32 (rank (fun p => x (ix3 i j p)) (k.castLE hn)).val := by
  have hσ : sortedFrom (fun p q => FloatOps.cmpfTotal (F := Ideal) (φ := .f32) .gt (x (ix3 i j p)) (x (ix3 i j q)) == 1#1)
      = rank fun p => x (ix3 i j p) := by
    unfold rank
    congr 1
    funext p q
    exact greater_word _ _
  have hal : (fun p : Fin c => (ix3 i j (k.castLE hn) : (⟨3, ![a, b, c]⟩ : Shape).Idx).along 2 p) = ix3 i j := by
    funext p d
    match d with
    | 0 => rfl
    | 1 => rfl
    | 2 => rfl
  have hsl : ∀ {α : Type} (v : (⟨3, ![a, b, c]⟩ : Shape).Idx → α),
      extractStridedSlice (⟨3, ![a, b, n]⟩ : Shape) (fun _ => 0) v h (ix3 i j k) = v (ix3 i j (k.castLE hn)) := fun v => by
    show v _ = v _
    congr 1
    funext d
    apply Fin.ext
    match d with
    | 0 => exact Nat.zero_add _
    | 1 => exact Nat.zero_add _
    | 2 => exact Nat.zero_add _
  have key : ∀ A : Fin c → (⟨3, ![a, b, c]⟩ : Shape).Idx, A = ix3 i j →
      A (sortedFrom (fun p q => FloatOps.cmpfTotal (F := Ideal) (φ := .f32) .gt (x (A p)) (x (A q)) == 1#1) (k.castLE hn))
        = ix3 i j (rank (fun p => x (ix3 i j p)) (k.castLE hn)) := by
    rintro _ rfl
    rw [hσ]
  have hr : (2 : ℕ) < (⟨3, ![a, b, c]⟩ : Shape).rank := show 2 < 3 by decide
  unfold Host.topK Host.sort2
  simp only [dif_pos hr]
  rw [hsl, hsl]
  refine ⟨congrArg x (key _ hal), ?_⟩
  exact (congrArg (fun q : (⟨3, ![a, b, c]⟩ : Shape).Idx => BitVec.ofNat 32 (q 2).val) (key _ hal))

end Cert.Order
-- ==== Proof.Reference.lean ====
/-
  What the reference computes, entry by entry: the scores, the values and positions of each row's top 8, and the normalised
  amplitudes of the top values.
-/
module

public import proofs.«01_k».proof.Proof.Spec
public import proofs.«01_k».proof.Proof.Order
public import proofs.«01_k».proof.Proof.Gen.ReferenceIdeal.Run

@[expose] public section

set_option maxRecDepth 16384

noncomputable section

namespace Cert.Reference

open Idealize.ShloMosaic Idealize.ShloMosaic.TcCoe Cert.ReferenceIdeal Cert.ReferenceIdeal.Gen Cert.Order

/-- The scores of every row against every prime. -/
def scores (h : FVec Ideal S4x2048x768 .f32) (w : FVec Ideal S8192x768 .f32) (b : FVec Ideal S8192 .f32) : FVec Ideal S4x2048x8192 .f32 :=
  addf (Host.dotGeneral dot_S4x2048x768_S8192x768_S4x2048x8192_2_1_01_0_n_n none h w)
    (broadcastInDim S4x2048x8192 ![0, 1, 2] bcast_S1x1x8192_S4x2048x8192_0_1_2 (broadcastInDim S1x1x8192 ![2] bcast_S8192_S1x1x8192_2 b))

/-- The values of each row's top 8, and their positions. -/
def values (x : FVec Ideal S4x2048x8192 .f32) : FVec Ideal S4x2048x8 .f32 :=
  (Host.topK S4x2048x8 2 (FloatOps.cmpfTotal .gt) x sliceFits_S4x2048x8192_S4x2048x8).1
def positions (x : FVec Ideal S4x2048x8192 .f32) : IVec S4x2048x8 32 :=
  (Host.topK S4x2048x8 2 (FloatOps.cmpfTotal .gt) x sliceFits_S4x2048x8192_S4x2048x8).2

/-- The exponentials of the values less their row's greatest. -/
def expTop (v : FVec Ideal S4x2048x8 .f32) : FVec Ideal S4x2048x8 .f32 :=
  Host.exp (subf v (broadcastInDim S4x2048x8 ![0, 1, 2] bcast_S4x2048x1_S4x2048x8_0_1_2 (broadcastInDim S4x2048x1 ![0, 1] bcast_S4x2048_S4x2048x1_0_1
    (maximumf (broadcastInDim S4x2048 ![] bcast_S_S4x2048 (constant S_ .f32 0xFF800000#32))
      (Host.reduce FloatOps.maximumf v (constant S_ .f32 0xFF800000#32) reducesTo_S4x2048x8_S4x2048_d2 h_S_)))))

/-- The softmax of the values. -/
def weights (v : FVec Ideal S4x2048x8 .f32) : FVec Ideal S4x2048x8 .f32 :=
  Host.divf (expTop v) (broadcastInDim S4x2048x8 ![0, 1, 2] bcast_S4x2048x1_S4x2048x8_0_1_2 (broadcastInDim S4x2048x1 ![0, 1] bcast_S4x2048_S4x2048x1_0_1
    (Host.reduceAdd (expTop v) (constant S_ .f32 0x00000000#32) reducesTo_S4x2048x8_S4x2048_d2 h_S_)))

/-- The weighted amplitudes. -/
def weighted (h : FVec Ideal S4x2048x768 .f32) (w : FVec Ideal S32x768 .f32) (b : FVec Ideal S32 .f32) (v : FVec Ideal S4x2048x8 .f32) :
    FVec Ideal S4x2048x8x4 .f32 :=
  mulf (shapeCast _ (addf (Host.dotGeneral dot_S4x2048x768_S32x768_S4x2048x32_2_1_01_0_n_n none h w)
      (broadcastInDim S4x2048x32 ![0, 1, 2] bcast_S1x1x32_S4x2048x32_0_1_2 (broadcastInDim S1x1x32 ![2] bcast_S32_S1x1x32_2 b))) shapeCasts_S4x2048x32_S4x2048x8x4)
    (broadcastInDim S4x2048x8x4 ![0, 1, 2, 3] bcast_S4x2048x8x1_S4x2048x8x4_0_1_2_3 (broadcastInDim S4x2048x8x1 ![0, 1, 2] bcast_S4x2048x8_S4x2048x8x1_0_1_2 (weights v)))

/-- The amplitudes divided by their heads' norms. -/
def normalised (a : FVec Ideal S4x2048x8x4 .f32) : FVec Ideal S8192x32 .f32 :=
  shapeCast _ (Host.divf a (broadcastInDim S4x2048x8x4 ![0, 1, 2, 3] bcast_S4x2048x8x1_S4x2048x8x4_0_1_2_3
    (maximumf (Host.sqrt (broadcastInDim S4x2048x8x1 ![0, 1, 2] bcast_S4x2048x8_S4x2048x8x1_0_1_2
        (Host.reduceAdd (mulf a a) (constant S_ .f32 0x00000000#32) reducesTo_S4x2048x8x4_S4x2048x8_d3 h_S_)))
      (broadcastInDim S4x2048x8x1 ![] bcast_S_S4x2048x8x1 (constant S_ .f32 0x2B8CBCCC#32))))) shapeCasts_S4x2048x8x4_S8192x32

theorem scores_at (h : FVec Ideal S4x2048x768 .f32) (w : FVec Ideal S8192x768 .f32) (b : FVec Ideal S8192 .f32) (R p : Fin 8192) :
    scores h w b (ix3 ⟨R.val / 2048, by omega⟩ ⟨R.val % 2048, by omega⟩ p) = Spec.score h w b R p.val := by
  have hp : (⟨p.val % 8192, Nat.mod_lt _ (by decide)⟩ : Fin 8192) = p := Fin.ext (Nat.mod_eq_of_lt p.isLt)
  unfold Spec.score
  rw [hp]
  pointwise [scores, Spec.hid]

theorem flat_at (x : IVec S4x2048x8 32) (R : Fin 8192) (k : Fin 8) :
    shapeCast S8192x8 x shapeCasts_S4x2048x8_S8192x8 (ix2 R k) = x (ix3 ⟨R.val / 2048, by omega⟩ ⟨R.val % 2048, by omega⟩ k) := by
  pointwise

/-- The scores of a row, as a function of the prime. -/
def row (h : FVec Ideal S4x2048x768 .f32) (w : FVec Ideal S8192x768 .f32) (b : FVec Ideal S8192 .f32) (R : Fin 8192) (p : Fin 8192) : EReal :=
  Spec.score h w b R p.val

theorem top_at (h : FVec Ideal S4x2048x768 .f32) (w : FVec Ideal S8192x768 .f32) (b : FVec Ideal S8192 .f32) (R : Fin 8192) (k : Fin 8) :
    values (scores h w b) (ix3 ⟨R.val / 2048, by omega⟩ ⟨R.val % 2048, by omega⟩ k)
        = row h w b R (rank (row h w b R) (k.castLE (by decide)))
      ∧ positions (scores h w b) (ix3 ⟨R.val / 2048, by omega⟩ ⟨R.val % 2048, by omega⟩ k)
        = BitVec.ofNat 32 (rank (row h w b R) (k.castLE (by decide))).val := by
  have e : (fun p => scores h w b (ix3 ⟨R.val / 2048, by omega⟩ ⟨R.val % 2048, by omega⟩ p)) = row h w b R :=
    funext fun p => scores_at h w b R p
  obtain ⟨h1, h2⟩ := topK_at (scores h w b) sliceFits_S4x2048x8192_S4x2048x8 (by decide) ⟨R.val / 2048, by omega⟩ ⟨R.val % 2048, by omega⟩ k
  rw [e] at h1 h2
  exact ⟨h1.trans (scores_at h w b R _), h2⟩

/-- The maximum of a row of top values is the first of them. -/
theorem fold_first (T : Fin 8 → EReal) (hT : ∀ k, T k ≤ T 0) :
    max (Ideal.ofBits .f32 4286578688#32) (Finset.univ.fold max (Ideal.ofBits .f32 4286578688#32) T) = T 0 := by
  have hb : Ideal.ofBits .f32 4286578688#32 = (⊥ : EReal) := by simp [Ideal.ofBits, Ideal.ieee]
  rw [hb, max_eq_right bot_le]
  apply le_antisymm
  · rw [Finset.fold_max_le]
    exact ⟨bot_le, fun k _ => hT k⟩
  · rw [Finset.le_fold_max]
    exact .inr ⟨0, Finset.mem_univ _, le_refl _⟩

theorem expTop_at (v : FVec Ideal S4x2048x8 .f32) (i : Fin 4) (j : Fin 2048) (hT : ∀ k : Fin 8, v (ix3 i j k) ≤ v (ix3 i j 0)) (k : Fin 8) :
    expTop v (ix3 i j k) = Ideal.exp (v (ix3 i j k) - v (ix3 i j 0)) := by
  rw [← fold_first (fun k => v (ix3 i j k)) hT]
  pointwise [expTop]

theorem weights_at (v : FVec Ideal S4x2048x8 .f32) (i : Fin 4) (j : Fin 2048) (hT : ∀ k : Fin 8, v (ix3 i j k) ≤ v (ix3 i j 0)) (k : Fin 8) :
    weights v (ix3 i j k) = Spec.weight (fun k => v (ix3 i j k)) k := by
  unfold Spec.weight
  simp only [← expTop_at v i j hT]
  pointwise [weights]

theorem weighted_at (h : FVec Ideal S4x2048x768 .f32) (w : FVec Ideal S32x768 .f32) (b : FVec Ideal S32 .f32) (v : FVec Ideal S4x2048x8 .f32)
    (R : Fin 8192) (hT : ∀ k : Fin 8, v (ix3 ⟨R.val / 2048, by omega⟩ ⟨R.val % 2048, by omega⟩ k) ≤ v (ix3 ⟨R.val / 2048, by omega⟩ ⟨R.val % 2048, by omega⟩ 0))
    (k : Fin 8) (j : Fin 4) :
    weighted h w b v (ix4 ⟨R.val / 2048, by omega⟩ ⟨R.val % 2048, by omega⟩ k j)
      = Spec.amp (Spec.logit h w b R) (fun k => v (ix3 ⟨R.val / 2048, by omega⟩ ⟨R.val % 2048, by omega⟩ k)) ⟨4 * k.val + j.val, by omega⟩ := by
  have hk : (⟨(4 * k.val + j.val) / 4, by omega⟩ : Fin 8) = k := Fin.ext (by show (4 * k.val + j.val) / 4 = k.val; omega)
  unfold Spec.amp
  simp only [hk]
  rw [← weights_at v _ _ hT k]
  have hj : (⟨4 * k.val + j.val, by omega⟩ : Fin 32) = ⟨k.val * 4 + j.val, by omega⟩ := Fin.ext (by show 4 * k.val + j.val = k.val * 4 + j.val; omega)
  rw [hj]
  pointwise [weighted, Spec.logit, Spec.hid]

theorem normalised_at (h : FVec Ideal S4x2048x768 .f32) (w : FVec Ideal S32x768 .f32) (b : FVec Ideal S32 .f32) (v : FVec Ideal S4x2048x8 .f32)
    (R : Fin 8192) (hT : ∀ k : Fin 8, v (ix3 ⟨R.val / 2048, by omega⟩ ⟨R.val % 2048, by omega⟩ k) ≤ v (ix3 ⟨R.val / 2048, by omega⟩ ⟨R.val % 2048, by omega⟩ 0))
    (q : Fin 32) :
    normalised (weighted h w b v) (ix2 R q)
      = Spec.normed (Spec.logit h w b R) (fun k => v (ix3 ⟨R.val / 2048, by omega⟩ ⟨R.val % 2048, by omega⟩ k)) q := by
  have hq : q = ⟨4 * (q.val / 4) + q.val % 4, by omega⟩ := Fin.ext (by show q.val = 4 * (q.val / 4) + q.val % 4; omega)
  unfold Spec.normed
  have e := fun j : Fin 4 => weighted_at h w b v R hT ⟨q.val / 4, by omega⟩ j
  have e' := weighted_at h w b v R hT ⟨q.val / 4, by omega⟩ ⟨q.val % 4, by omega⟩
  rw [← hq] at e'
  simp only [← e, ← e']
  pointwise [normalised]

/-- The reference's second result. -/
theorem result (m : (ℓ : Loc nD τ sig) → Buf (Elt Ideal) ℓ) (c : Dev nD) :
    Value.res_main_v29 m c = normalised (weighted (m ((c.tc : Thread nD τ).loc main_arg0)) (m ((c.tc : Thread nD τ).loc main_arg3))
      (m ((c.tc : Thread nD τ).loc main_arg4)) (values (scores (m ((c.tc : Thread nD τ).loc main_arg0))
        (m ((c.tc : Thread nD τ).loc main_arg1)) (m ((c.tc : Thread nD τ).loc main_arg2))))) := rfl

end Cert.Reference
-- ==== Proof.Mask.lean ====
/-
  What the mask says of a row and a rank: the score of that rank is strictly between the scores of the ranks beside it.
-/
module

public import proofs.«01_k».proof.On_settled
public import proofs.«01_k».proof.Proof.Spec
public import proofs.«01_k».proof.Proof.Order

@[expose] public section

set_option maxRecDepth 16384

noncomputable section

namespace Cert.On_settled

open Idealize.ShloMosaic Cert.Order

/-- The side conditions of the mask's operations. -/
theorem facts : Facts where
  bcast_S8192_S1x1x8192_2 := by decide
  bcast_S1x1x8192_S4x2048x8192_0_1_2 := by decide
  sliceFits_S4x2048x8192_S4x2048x9 := by decide
  shapeCasts_S4x2048x9_S8192x9 := by decide
  slices_S8192x9_S8192x8_0_0 := by decide
  slices_S8192x9_S8192x8_0_1 := by decide
  bcast_S_S8192x1 := by decide
  slices_S8192x8_S8192x7_0_0 := by decide
  concatenates_S8192x1_S8192x7_S8192x8_d1 := by decide
  bcast_S_S8192x32 := by decide
  dot_S4x2048x768_S8192x768_S4x2048x8192_2_1_01_0_n_n_wf := by decide

variable [Facts]
open Facts

/-- The scores the mask computes. -/
def scores (h : FVec Ideal S4x2048x768 .f32) (w : FVec Ideal S8192x768 .f32) (b : FVec Ideal S8192 .f32) : FVec Ideal S4x2048x8192 .f32 :=
  addf (Host.dotGeneral dot_S4x2048x768_S8192x768_S4x2048x8192_2_1_01_0_n_n none h w)
    (broadcastInDim S4x2048x8192 ![0, 1, 2] bcast_S1x1x8192_S4x2048x8192_0_1_2 (broadcastInDim S1x1x8192 ![2] bcast_S8192_S1x1x8192_2 b))

/-- The values of each row's top 9, a row to a row. -/
def best (x : FVec Ideal S4x2048x8192 .f32) : FVec Ideal S8192x9 .f32 :=
  shapeCast S8192x9 (Host.topK S4x2048x9 2 (FloatOps.cmpfTotal .gt) x sliceFits_S4x2048x8192_S4x2048x9).1 shapeCasts_S4x2048x9_S8192x9

/-- Where a value is greater than the next. -/
def gap (v : FVec Ideal S8192x9 .f32) : IVec S8192x8 1 :=
  cmpf .ogt (extractStridedSlice S8192x8 ![0, 0] v slices_S8192x9_S8192x8_0_0) (extractStridedSlice S8192x8 ![0, 1] v slices_S8192x9_S8192x8_0_1)

/-- The same of the rank above; the first has none. -/
def above (g : IVec S8192x8 1) : IVec S8192x8 1 :=
  concatenate S8192x8 1 [⟨S8192x1, broadcastInDim S8192x1 ![] bcast_S_S8192x1 (constantI S_ 1 1#1)⟩,
    ⟨S8192x7, extractStridedSlice S8192x7 ![0, 0] g slices_S8192x8_S8192x7_0_0⟩] concatenates_S8192x1_S8192x7_S8192x8_d1

theorem fn_eq (h : FVec Ideal S4x2048x768 .f32) (w : FVec Ideal S8192x768 .f32) (b : FVec Ideal S8192 .f32) (w' : FVec Ideal S32x768 .f32) (b' : FVec Ideal S32 .f32) :
    (fn h w b w' b').1 = andi (above (gap (best (scores h w b)))) (gap (best (scores h w b))) := rfl

/-- A row's scores. -/
def row (h : FVec Ideal S4x2048x768 .f32) (w : FVec Ideal S8192x768 .f32) (b : FVec Ideal S8192 .f32) (R : Fin 8192) (p : Fin 8192) : EReal :=
  Spec.score h w b R p.val

theorem scores_at (h : FVec Ideal S4x2048x768 .f32) (w : FVec Ideal S8192x768 .f32) (b : FVec Ideal S8192 .f32) (R p : Fin 8192) :
    scores h w b (ix3 ⟨R.val / 2048, by omega⟩ ⟨R.val % 2048, by omega⟩ p) = row h w b R p := by
  have hp : (⟨p.val % 8192, Nat.mod_lt _ (by decide)⟩ : Fin 8192) = p := Fin.ext (Nat.mod_eq_of_lt p.isLt)
  unfold row Spec.score
  rw [hp]
  pointwise [scores, Spec.hid]

theorem best_at (h : FVec Ideal S4x2048x768 .f32) (w : FVec Ideal S8192x768 .f32) (b : FVec Ideal S8192 .f32) (R : Fin 8192) (k : Fin 9) :
    best (scores h w b) (ix2 R k) = row h w b R (rank (row h w b R) (k.castLE (by decide))) := by
  have e : (fun p => scores h w b (ix3 ⟨R.val / 2048, by omega⟩ ⟨R.val % 2048, by omega⟩ p)) = row h w b R :=
    funext fun p => scores_at h w b R p
  obtain ⟨h1, -⟩ := topK_at (scores h w b) sliceFits_S4x2048x8192_S4x2048x9 (by decide) ⟨R.val / 2048, by omega⟩ ⟨R.val % 2048, by omega⟩ k
  rw [e, scores_at] at h1
  rw [← h1]
  unfold best
  pointwise

theorem gap_at (v : FVec Ideal S8192x9 .f32) (R : Fin 8192) (k : Fin 8) (h : gap v (ix2 R k) = 1#1) :
    v (ix2 R ⟨k.val + 1, by omega⟩) < v (ix2 R ⟨k.val, by omega⟩) := by
  revert h
  have hk : (⟨1 + k.val, by omega⟩ : Fin 9) = ⟨k.val + 1, by omega⟩ := Fin.ext (Nat.add_comm 1 k.val)
  pointwise [gap]
  rw [hk]
  intro h
  by_contra hn
  rw [decide_eq_false hn] at h
  exact absurd h (by decide)

theorem above_at (g : IVec S8192x8 1) (R : Fin 8192) (k : Fin 8) (h : above g (ix2 R k) = 1#1) (hk : 0 < k.val) :
    g (ix2 R ⟨k.val - 1, by omega⟩) = 1#1 := by
  revert h
  pointwise [above]
  rw [dif_neg (show ¬k.val < 1 by omega)]
  exact id

theorem both_words : ∀ a b : BitVec 1, IntOp.andi a b = 1#1 → a = 1#1 ∧ b = 1#1 := by decide

/-- Where the mask is set, the score of rank `k` is strictly between its neighbours in rank. -/
theorem settled_at (h : FVec Ideal S4x2048x768 .f32) (w : FVec Ideal S8192x768 .f32) (b : FVec Ideal S8192 .f32) (w' : FVec Ideal S32x768 .f32)
    (b' : FVec Ideal S32 .f32) (R : Fin 8192) (k : Fin 8) (hs : (fn h w b w' b').1 (ix2 R k) = 1#1) :
    (∀ _ : 0 < k.val, row h w b R (rank (row h w b R) ⟨k.val, by omega⟩) < row h w b R (rank (row h w b R) ⟨k.val - 1, by omega⟩))
      ∧ row h w b R (rank (row h w b R) ⟨k.val + 1, by omega⟩) < row h w b R (rank (row h w b R) ⟨k.val, by omega⟩) := by
  rw [fn_eq] at hs
  obtain ⟨ha, hg⟩ := both_words _ _ hs
  constructor
  · intro hk
    have h1 := gap_at _ R ⟨k.val - 1, by omega⟩ (above_at _ R k ha hk)
    rw [best_at, best_at] at h1
    have e : (Fin.castLE (by decide : 9 ≤ 8192) ⟨k.val - 1 + 1, by omega⟩ : Fin 8192) = ⟨k.val, by omega⟩ := Fin.ext (by show k.val - 1 + 1 = k.val; omega)
    rw [e] at h1
    exact h1
  · have h1 := gap_at _ R k hg
    rw [best_at, best_at] at h1
    exact h1

end Cert.On_settled
-- ==== Proof.Agree.lean ====
/-
  The two programs' results, index by index. Both take the same eight values from a row. The second results are the same function
  of these values. In the first results, a rank whose score is strictly between its neighbours' has one position alone to name.
-/
module

public import proofs.«01_k».proof.Proof.Kernel
public import proofs.«01_k».proof.Proof.Reference
public import proofs.«01_k».proof.Proof.Mask

@[expose] public section

set_option maxRecDepth 16384

noncomputable section

namespace Cert.Agree

open Idealize.ShloMosaic Idealize.ShloMosaic.TcCoe Idealize.ShloMosaic.SortNet Cert.KernelIdeal Cert.KernelIdeal.Value Cert.Top8 Cert.Order

variable (m : (ℓ : Loc nD τ sig) → Buf (Elt Ideal) ℓ) (c : Dev nD)

/-- The kernel's rank-`r` value is the score of the position of that rank. -/
theorem value_at (R : Fin 8192) (r : Fin 8) :
    topValues (lastRegs m c (blockOf R)) (ix2 (inBlock R) r)
      = Reference.row (A0 m c) (A1 m c) (A2 m c) R (rank (Reference.row (A0 m c) (A1 m c) (A2 m c) R) (r.castLE (by decide))) := by
  have h := (last_top m c (blockOf R) (inBlock R)).1
  rw [rowOf_block] at h
  have h' := h.trans (topList_ofFn (Reference.row (A0 m c) (A1 m c) (A2 m c) R) 8)
  have hr := congrArg (fun L : List EReal => L[r.val]?) h'
  simp only [List.getElem?_take, r.isLt, if_true, List.getElem?_ofFn, dif_pos, show r.val < 8192 from by omega] at hr
  exact Option.some.inj hr

/-- The reference's values of the same row. -/
theorem values_eq (R : Fin 8192) (r : Fin 8) :
    topValues (lastRegs m c (blockOf R)) (ix2 (inBlock R) r)
      = Reference.values (Reference.scores (A0 m c) (A1 m c) (A2 m c)) (ix3 ⟨R.val / 2048, by omega⟩ ⟨R.val % 2048, by omega⟩ r) :=
  (value_at m c R r).trans (Reference.top_at _ _ _ R r).1.symm

/-- The first results agree where the mask is set. -/
theorem first [hOn : Cert.On_settled.Facts] (R : Fin 8192) (k : Fin 8)
    (hs : (Cert.On_settled.fn (F := Ideal) (A0 m c) (A1 m c) (A2 m c) (A3 m c) (A4 m c)).1 (ix2 R k) = 1#1) :
    G5 m c (ix2 R k) = shapeCast Cert.ReferenceIdeal.S8192x8 (Reference.positions (Reference.scores (A0 m c) (A1 m c) (A2 m c)))
      Cert.ReferenceIdeal.Gen.shapeCasts_S4x2048x8_S8192x8 (ix2 R k) := by
  rw [first_result, Reference.flat_at, (Reference.top_at _ _ _ R k).2]
  obtain ⟨n, hn, he⟩ := (last_top m c (blockOf R) (inBlock R)).2 k
  rw [rowOf_block] at he
  have hv : s m c R n = Reference.row (A0 m c) (A1 m c) (A2 m c) R (rank (Reference.row (A0 m c) (A1 m c) (A2 m c) R) (k.castLE (by decide))) :=
    (congrArg Prod.fst he).symm.trans (value_at m c R k)
  obtain ⟨ha, hb⟩ := Cert.On_settled.settled_at _ _ _ _ _ R k hs
  have hp := eq_rank_of_settled (Reference.row (A0 m c) (A1 m c) (A2 m c) R) (k.castLE (by decide)) ⟨n, hn⟩ hv ha (fun _ => hb)
  rw [← hp]
  exact congrArg Prod.snd he

/-- The second results agree everywhere. -/
theorem second (R : Fin 8192) (q : Fin 32) :
    G6 m c (ix2 R q) = Reference.normalised (Reference.weighted (A0 m c) (A3 m c) (A4 m c)
      (Reference.values (Reference.scores (A0 m c) (A1 m c) (A2 m c)))) (ix2 R q) := by
  rw [second_result, last_amps, rowOf_block, Reference.normalised_at]
  · congr 1
    funext k
    exact values_eq m c R k
  · intro k
    rw [(Reference.top_at _ _ _ R k).1, (Reference.top_at _ _ _ R 0).1]
    exact rank_antitone _ (Fin.le_def.mpr (Nat.zero_le _))

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference's frame: its run leaves every argument as it was, and it declares no semaphore. -/
theorem frame_reference : Cert.quiescent_ReferenceIdeal (hReferenceIdeal := Cert.ReferenceIdeal.Gen.facts) :=
  fun m ρ _ =>
    letI := Cert.ReferenceIdeal.Gen.facts
    (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The value claim: on equal arguments the positions agree where the score of a rank is strictly between its neighbours', and
    the normalised amplitudes agree everywhere. -/
theorem algebraic : Cert.algebraic_KernelIdeal_ReferenceIdeal_on_settled (hKernelIdeal := Cert.KernelIdeal.Gen.facts)
    (hReferenceIdeal := Cert.ReferenceIdeal.Gen.facts) (hOn_settled := Cert.On_settled.facts) := by
  letI := Cert.KernelIdeal.Gen.facts
  letI := Cert.ReferenceIdeal.Gen.facts
  letI := Cert.On_settled.facts
  intro m g m' g' _ hargs
  refine ⟨fun c => Cert.KernelIdeal.Value.G5 m c, fun c => Cert.KernelIdeal.Value.G6 m c, ?_, ?_⟩
  · exact (θ_run Cert.KernelIdeal.defs _ _).mono
      (fun _ h c => ⟨fun i _ => congrFun (h c).1 i, fun i _ => congrFun (h c).2.1 i, (h c).2.2⟩)
      (Cert.KernelIdeal.Value.run (F := Ideal) m g)
  · refine (θ_run Cert.ReferenceIdeal.defs _ _).mono (fun r h c => ⟨fun i hs => ?_, fun i _ => ?_, (h c).2.2⟩)
      (Cert.ReferenceIdeal.Value.run (F := Ideal) m' g')
    · obtain ⟨h0, h1, h2, h3, h4⟩ := hargs c
      obtain ⟨R, k, rfl⟩ : ∃ R k, i = ix2 R k := ⟨i 0, i 1, eq_ix2 i⟩
      refine Eq.trans (congrFun (h c).1 (ix2 R k)) ?_
      rw [h0, h1, h2]
      exact (Cert.Agree.first m c R k hs).symm
    · obtain ⟨h0, h1, h2, h3, h4⟩ := hargs c
      obtain ⟨R, q, rfl⟩ : ∃ R q, i = ix2 R q := ⟨i 0, i 1, eq_ix2 i⟩
      refine Eq.trans (congrFun (h c).2.1 (ix2 R q)) ?_
      rw [Cert.Reference.result, h0, h1, h2, h3, h4]
      exact (Cert.Agree.second m c R q).symm

theorem claim : Cert.Claim := ⟨Cert.Kernel.Gen.facts, Cert.KernelIdeal.Gen.facts, Cert.ReferenceIdeal.Gen.facts,
  Cert.On_settled.facts, fun m ρ _ => Cert.Kernel.Gen.frame m ρ, fun m ρ _ => Cert.KernelIdeal.Gen.frame m ρ,
  frame_reference, trivial, algebraic⟩

end Cert.Proof

end
